-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x16x192 : Shape := ⟨3, ![4096, 16, 192]⟩
abbrev S4096x576 : Shape := ⟨2, ![4096, 576]⟩
abbrev S16384x512 : Shape := ⟨2, ![16384, 512]⟩
abbrev S2048x64 : Shape := ⟨2, ![2048, 64]⟩
abbrev S512x4096 : Shape := ⟨2, ![512, 4096]⟩
abbrev S_ : Shape := ⟨0, ![]⟩

class Facts : Prop where
  bcast_S_S4096x16x192 : S_.BroadcastsInDim S4096x16x192 (![] : Fin 0 → Fin S4096x16x192.rank)
  reducesTo_S4096x16x192_S_d0_1_2 : S4096x16x192.ReducesTo [0, 1, 2] S_
  h_S_ : 0 < S_.numel
  bcast_S_S4096x576 : S_.BroadcastsInDim S4096x576 (![] : Fin 0 → Fin S4096x576.rank)
  reducesTo_S4096x576_S_d0_1 : S4096x576.ReducesTo [0, 1] S_
  bcast_S_S16384x512 : S_.BroadcastsInDim S16384x512 (![] : Fin 0 → Fin S16384x512.rank)
  reducesTo_S16384x512_S_d0_1 : S16384x512.ReducesTo [0, 1] S_
  bcast_S_S2048x64 : S_.BroadcastsInDim S2048x64 (![] : Fin 0 → Fin S2048x64.rank)
  reducesTo_S2048x64_S_d0_1 : S2048x64.ReducesTo [0, 1] S_
  bcast_S_S512x4096 : S_.BroadcastsInDim S512x4096 (![] : Fin 0 → Fin S512x4096.rank)
  reducesTo_S512x4096_S_d0_1 : S512x4096.ReducesTo [0, 1] S_

variable [Facts]

def fn_part1 {F : FTy → Type} [FloatOps F] (main_arg4 : FVec F S512x4096 .f32) (main_v13 : IVec S_ 1) (main_v16 : IVec S2048x64 1) : IVec S_ 1 :=
  let main_c_5 : IVec S_ 1 := constantI S_ 1 1#1
  let main_v17 : IVec S_ 1 := (fun x v => Host.reduce IntOp.andi x v reducesTo_S2048x64_S_d0_1 h_S_) main_v16 main_c_5
  let main_v18 : IVec S_ 1 := andi main_v13 main_v17
  let main_v19 : FVec F S512x4096 .f32 := Host.absf main_arg4
  let main_cst_6 : FVec F S_ .f32 := constant S_ .f32 0x7F800000#32
  let main_v20 : FVec F S512x4096 .f32 := broadcastInDim S512x4096 ![] bcast_S_S512x4096 main_cst_6
  let main_v21 : IVec S512x4096 1 := cmpf .olt main_v19 main_v20
  let main_c_7 : IVec S_ 1 := constantI S_ 1 1#1
  let main_v22 : IVec S_ 1 := (fun x v => Host.reduce IntOp.andi x v reducesTo_S512x4096_S_d0_1 h_S_) main_v21 main_c_7
  let main_v23 : IVec S_ 1 := andi main_v18 main_v22
  main_v23

def fn {F : FTy → Type} [FloatOps F] (main_arg0 : FVec F S4096x16x192 .f32) (main_arg1 : FVec F S4096x576 .f32) (main_arg2 : FVec F S16384x512 .f32) (main_arg3 : FVec F S2048x64 .f32) (main_arg4 : FVec F S512x4096 .f32) : IVec S_ 1 :=
  let main_v0 : FVec F S4096x16x192 .f32 := Host.absf main_arg0
  let main_cst : FVec F S_ .f32 := constant S_ .f32 0x7F800000#32
  let main_v1 : FVec F S4096x16x192 .f32 := broadcastInDim S4096x16x192 ![] bcast_S_S4096x16x192 main_cst
  let main_v2 : IVec S4096x16x192 1 := cmpf .olt main_v0 main_v1
  let main_c : IVec S_ 1 := constantI S_ 1 1#1
  let main_v3 : IVec S_ 1 := (fun x v => Host.reduce IntOp.andi x v reducesTo_S4096x16x192_S_d0_1_2 h_S_) main_v2 main_c
  let main_v4 : FVec F S4096x576 .f32 := Host.absf main_arg1
  let main_cst_0 : FVec F S_ .f32 := constant S_ .f32 0x7F800000#32
  let main_v5 : FVec F S4096x576 .f32 := broadcastInDim S4096x576 ![] bcast_S_S4096x576 main_cst_0
  let main_v6 : IVec S4096x576 1 := cmpf .olt main_v4 main_v5
  let main_c_1 : IVec S_ 1 := constantI S_ 1 1#1
  let main_v7 : IVec S_ 1 := (fun x v => Host.reduce IntOp.andi x v reducesTo_S4096x576_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S2048x64 .f32 := Host.absf main_arg3
  let main_cst_4 : FVec F S_ .f32 := constant S_ .f32 0x7F800000#32
  let main_v15 : FVec F S2048x64 .f32 := broadcastInDim S2048x64 ![] bcast_S_S2048x64 main_cst_4
  let main_v16 : IVec S2048x64 1 := cmpf .olt main_v14 main_v15
  fn_part1 (F := F) main_arg4 main_v13 main_v16
-- ==== Kernel.lean ====
abbrev S4096x16x192 : Shape := ⟨3, ![4096, 16, 192]⟩
abbrev S4096x576 : Shape := ⟨2, ![4096, 576]⟩
abbrev S16384x512 : Shape := ⟨2, ![16384, 512]⟩
abbrev S2048x64 : Shape := ⟨2, ![2048, 64]⟩
abbrev S512x4096 : Shape := ⟨2, ![512, 4096]⟩
abbrev S256x64 : Shape := ⟨2, ![256, 64]⟩
abbrev S4096x512 : Shape := ⟨2, ![4096, 512]⟩
abbrev S256x8192 : Shape := ⟨2, ![256, 8192]⟩
abbrev S4096x64 : Shape := ⟨2, ![4096, 64]⟩
abbrev S256x1024 : Shape := ⟨2, ![256, 1024]⟩
abbrev S255x8192 : Shape := ⟨2, ![255, 8192]⟩
abbrev S_ : Shape := ⟨0, ![]⟩
abbrev S1x8192 : Shape := ⟨2, ![1, 8192]⟩
abbrev S255x1024 : Shape := ⟨2, ![255, 1024]⟩
abbrev S1x1024 : Shape := ⟨2, ![1, 1024]⟩
abbrev S256x16384 : Shape := ⟨2, ![256, 16384]⟩
abbrev S256x2048 : Shape := ⟨2, ![256, 2048]⟩
abbrev S256x512 : Shape := ⟨2, ![256, 512]⟩
abbrev S8192x512 : Shape := ⟨2, ![8192, 512]⟩
abbrev S16x256x192 : Shape := ⟨3, ![16, 256, 192]⟩
abbrev S16x256x128 : Shape := ⟨3, ![16, 256, 128]⟩
abbrev S256x4096 : Shape := ⟨2, ![256, 4096]⟩
abbrev S256x128 : Shape := ⟨2, ![256, 128]⟩
abbrev S256x192 : Shape := ⟨2, ![256, 192]⟩
abbrev S1x256x192 : Shape := ⟨3, ![1, 256, 192]⟩
abbrev S1x256x128 : Shape := ⟨3, ![1, 256, 128]⟩
abbrev S4096x2048 : Shape := ⟨2, ![4096, 2048]⟩
abbrev S4096x16 : Shape := ⟨2, ![4096, 16]⟩
abbrev S256x16x192 : Shape := ⟨3, ![256, 16, 192]⟩
abbrev S256x16 : Shape := ⟨2, ![256, 16]⟩
abbrev S256x256 : Shape := ⟨2, ![256, 256]⟩
abbrev S256x1 : Shape := ⟨2, ![256, 1]⟩
abbrev S256x1x192 : Shape := ⟨3, ![256, 1, 192]⟩
abbrev S256 : Shape := ⟨1, ![256]⟩
abbrev S4096x1x16 : Shape := ⟨3, ![4096, 1, 16]⟩

abbrev nBuf : Space → Nat
  | .hbm => 27
  | .vmem => 23
  | .smem => 0
  | _ => 0

abbrev bufTy : (tb : Table) → Fin (tcTables nBuf tb) → BufTy
  | .hbm, ⟨0, _⟩ => ⟨S4096x16x192, .f32⟩
  | .hbm, ⟨1, _⟩ => ⟨S4096x576, .f32⟩
  | .hbm, ⟨2, _⟩ => ⟨S16384x512, .f32⟩
  | .hbm, ⟨3, _⟩ => ⟨S2048x64, .f32⟩
  | .hbm, ⟨4, _⟩ => ⟨S512x4096, .f32⟩
  | .hbm, ⟨5, _⟩ => ⟨S256x64, .f32⟩
  | .hbm, ⟨6, _⟩ => ⟨S4096x512, .f32⟩
  | .hbm, ⟨7, _⟩ => ⟨S256x8192, .f32⟩
  | .hbm, ⟨8, _⟩ => ⟨S4096x64, .f32⟩
  | .hbm, ⟨9, _⟩ => ⟨S256x1024, .f32⟩
  | .hbm, ⟨10, _⟩ => ⟨S255x8192, .f32⟩
  | .hbm, ⟨11, _⟩ => ⟨S_, .f32⟩
  | .hbm, ⟨12, _⟩ => ⟨S1x8192, .f32⟩
  | .hbm, ⟨13, _⟩ => ⟨S256x8192, .f32⟩
  | .hbm, ⟨14, _⟩ => ⟨S255x1024, .f32⟩
  | .hbm, ⟨15, _⟩ => ⟨S_, .f32⟩
  | .hbm, ⟨16, _⟩ => ⟨S1x1024, .f32⟩
  | .hbm, ⟨17, _⟩ => ⟨S256x1024, .f32⟩
  | .hbm, ⟨18, _⟩ => ⟨S256x16384, .f32⟩
  | .hbm, ⟨19, _⟩ => ⟨S256x2048, .f32⟩
  | .hbm, ⟨20, _⟩ => ⟨S256x512, .f32⟩
  | .hbm, ⟨21, _⟩ => ⟨S256x64, .f32⟩
  | .hbm, ⟨22, _⟩ => ⟨S16x256x192, .f32⟩
  | .hbm, ⟨23, _⟩ => ⟨S16x256x128, .f32⟩
  | .hbm, ⟨24, _⟩ => ⟨S4096x2048, .f32⟩
  | .hbm, ⟨25, _⟩ => ⟨S4096x16, .i32⟩
  | .hbm, ⟨26, _⟩ => ⟨S4096x1x16, .i32⟩
  | .local _ .vmem, ⟨0, _⟩ => ⟨S256x8192, .f32⟩
  | .local _ .vmem, ⟨1, _⟩ => ⟨S256x8192, .f32⟩
  | .local _ .vmem, ⟨2, _⟩ => ⟨S256x2048, .f32⟩
  | .local _ .vmem, ⟨3, _⟩ => ⟨S8192x512, .f32⟩
  | .local _ .vmem, ⟨4, _⟩ => ⟨S8192x512, .f32⟩
  | .local _ .vmem, ⟨5, _⟩ => ⟨S2048x64, .f32⟩
  | .local _ .vmem, ⟨6, _⟩ => ⟨S256x512, .f32⟩
  | .local _ .vmem, ⟨7, _⟩ => ⟨S256x64, .f32⟩
  | .local _ .vmem, ⟨8, _⟩ => ⟨S256x512, .f32⟩
  | .local _ .vmem, ⟨9, _⟩ => ⟨S256x512, .f32⟩
  | .local _ .vmem, ⟨10, _⟩ => ⟨S256x64, .f32⟩
  | .local _ .vmem, ⟨11, _⟩ => ⟨S512x4096, .f32⟩
  | .local _ .vmem, ⟨12, _⟩ => ⟨S16x256x192, .f32⟩
  | .local _ .vmem, ⟨13, _⟩ => ⟨S16x256x128, .f32⟩
  | .local _ .vmem, ⟨14, _⟩ => ⟨S256x16x192, .f32⟩
  | .local _ .vmem, ⟨15, _⟩ => ⟨S256x16x192, .f32⟩
  | .local _ .vmem, ⟨16, _⟩ => ⟨S16x256x192, .f32⟩
  | .local _ .vmem, ⟨17, _⟩ => ⟨S16x256x128, .f32⟩
  | .local _ .vmem, ⟨18, _⟩ => ⟨S256x64, .f32⟩
  | .local _ .vmem, ⟨19, _⟩ => ⟨S256x2048, .f32⟩
  | .local _ .vmem, ⟨20, _⟩ => ⟨S256x2048, .f32⟩
  | .local _ .vmem, ⟨21, _⟩ => ⟨S256x16, .i32⟩
  | .local _ .vmem, ⟨22, _⟩ => ⟨S256x16, .i32⟩
  | _, _ => ⟨S4096x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v13_0 : Ref sig .tc := ⟨.hbm, 22, rfl⟩
abbrev main_v13_1 : Ref sig .tc := ⟨.hbm, 23, rfl⟩
abbrev main_v14_0 : Ref sig .tc := ⟨.hbm, 24, rfl⟩
abbrev main_v14_1 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem4_1 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v12 : BitVec 1 := Scalar.cmpi .eq arg0 c1_i32
  let v13 : BitVec 32 := Scalar.extui v12
  let c0_i32_8 : BitVec 32 := 0#32
  let v14 : BitVec 1 := Scalar.cmpi .ne v13 c0_i32_8
  v14

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := .none

abbrev stage1_0 : Fin 1 → Memref sig .tc .vmem S256x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S512x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S16x256x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S16x256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x16x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x256x192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x16 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== KernelIdeal.lean ====
variable {F : FTy → Type} [FloatOps F] [Named F]
def κ : String → Option EReal := fun
  | "mask" => some ⊥
  | _ => none
-- ==== ReferenceIdeal.lean ====
abbrev S4096x16x192 : Shape := ⟨3, ![4096, 16, 192]⟩
abbrev S4096x576 : Shape := ⟨2, ![4096, 576]⟩
abbrev S16384x512 : Shape := ⟨2, ![16384, 512]⟩
abbrev S2048x64 : Shape := ⟨2, ![2048, 64]⟩
abbrev S512x4096 : Shape := ⟨2, ![512, 4096]⟩
abbrev S255x64 : Shape := ⟨2, ![255, 64]⟩
abbrev S255 : Shape := ⟨1, ![255]⟩
abbrev S255x1 : Shape := ⟨2, ![255, 1]⟩
abbrev S_ : Shape := ⟨0, ![]⟩
abbrev S32 : Shape := ⟨1, ![32]⟩
abbrev S1x32 : Shape := ⟨2, ![1, 32]⟩
abbrev S255x32 : Shape := ⟨2, ![255, 32]⟩
abbrev S255x32x1 : Shape := ⟨3, ![255, 32, 1]⟩
abbrev S255x32x576 : Shape := ⟨3, ![255, 32, 576]⟩
abbrev S255x32x512 : Shape := ⟨3, ![255, 32, 512]⟩
abbrev S255x16384 : Shape := ⟨2, ![255, 16384]⟩
abbrev S255x512 : Shape := ⟨2, ![255, 512]⟩
abbrev S255x32x64 : Shape := ⟨3, ![255, 32, 64]⟩
abbrev S255x2048 : Shape := ⟨2, ![255, 2048]⟩
abbrev S255x4096 : Shape := ⟨2, ![255, 4096]⟩
abbrev S255x16x256 : Shape := ⟨3, ![255, 16, 256]⟩
abbrev S255x16x128 : Shape := ⟨3, ![255, 16, 128]⟩
abbrev S255x1x64 : Shape := ⟨3, ![255, 1, 64]⟩
abbrev S255x16x64 : Shape := ⟨3, ![255, 16, 64]⟩
abbrev S255x16x192 : Shape := ⟨3, ![255, 16, 192]⟩
abbrev S16x4096x255 : Shape := ⟨3, ![16, 4096, 255]⟩
abbrev S4096 : Shape := ⟨1, ![4096]⟩
abbrev S1x4096x1 : Shape := ⟨3, ![1, 4096, 1]⟩
abbrev S1x1x255 : Shape := ⟨3, ![1, 1, 255]⟩
abbrev S1x4096x255 : Shape := ⟨3, ![1, 4096, 255]⟩
abbrev S16x4096 : Shape := ⟨2, ![16, 4096]⟩
abbrev S16x4096x1 : Shape := ⟨3, ![16, 4096, 1]⟩
abbrev S1x4096 : Shape := ⟨2, ![1, 4096]⟩
abbrev S16x128x4096 : Shape := ⟨3, ![16, 128, 4096]⟩
abbrev S4096x16x128 : Shape := ⟨3, ![4096, 16, 128]⟩
abbrev S4096x2048 : Shape := ⟨2, ![4096, 2048]⟩
abbrev S4096x255 : Shape := ⟨2, ![4096, 255]⟩
abbrev S4096x64 : Shape := ⟨2, ![4096, 64]⟩
abbrev S64 : Shape := ⟨1, ![64]⟩
abbrev S1x64 : Shape := ⟨2, ![1, 64]⟩
abbrev S4096x1 : Shape := ⟨2, ![4096, 1]⟩
abbrev S4096x16 : Shape := ⟨2, ![4096, 16]⟩
abbrev S4096x1x16 : Shape := ⟨3, ![4096, 1, 16]⟩

abbrev nBuf : Space → Nat
  | .hbm => 142
  | .vmem => 0
  | .smem => 0
  | _ => 0

abbrev hbmTy0_0 (i : Nat) : BufTy := match i % 128 with
  | 0 => ⟨S4096x16x192, .f32⟩
  | 1 => ⟨S4096x576, .f32⟩
  | 2 => ⟨S16384x512, .f32⟩
  | 3 => ⟨S2048x64, .f32⟩
  | 4 => ⟨S512x4096, .f32⟩
  | 5 => ⟨S255x64, .f32⟩
  | 6 => ⟨S255, .i32⟩
  | 7 => ⟨S255x1, .i32⟩
  | 8 => ⟨S_, .i32⟩
  | 9 => ⟨S255x1, .i32⟩
  | 10 => ⟨S255x1, .i32⟩
  | 11 => ⟨S32, .i32⟩
  | 12 => ⟨S1x32, .i32⟩
  | 13 => ⟨S255x32, .i32⟩
  | 14 => ⟨S255x32, .i32⟩
  | 15 => ⟨S255x32, .i32⟩
  | 16 => ⟨S_, .i32⟩
  | 17 => ⟨S255x32, .i32⟩
  | 18 => ⟨S255x32, .i1⟩
  | 19 => ⟨S_, .i32⟩
  | 20 => ⟨S255x32, .i32⟩
  | 21 => ⟨S255x32, .i32⟩
  | 22 => ⟨S255x32, .i32⟩
  | 23 => ⟨S255x32x1, .i32⟩
  | 24 => ⟨S255x32x576, .f32⟩
  | 25 => ⟨S255x32x512, .f32⟩
  | 26 => ⟨S255x16384, .f32⟩
  | 27 => ⟨S255x512, .f32⟩
  | 28 => ⟨S255x32x64, .f32⟩
  | 29 => ⟨S255x2048, .f32⟩
  | 30 => ⟨S255x64, .f32⟩
  | 31 => ⟨S255x4096, .f32⟩
  | 32 => ⟨S255x16x256, .f32⟩
  | 33 => ⟨S255x16x128, .f32⟩
  | 34 => ⟨S255x16x128, .f32⟩
  | 35 => ⟨S255x1x64, .f32⟩
  | 36 => ⟨S255x16x64, .f32⟩
  | 37 => ⟨S255x16x192, .f32⟩
  | 38 => ⟨S16x4096x255, .f32⟩
  | 39 => ⟨S_, .f32⟩
  | 40 => ⟨S16x4096x255, .f32⟩
  | 41 => ⟨S16x4096x255, .f32⟩
  | 42 => ⟨S4096, .i32⟩
  | 43 => ⟨S1x4096x1, .i32⟩
  | 44 => ⟨S255, .i32⟩
  | 45 => ⟨S_, .i32⟩
  | 46 => ⟨S255, .i32⟩
  | 47 => ⟨S255, .i32⟩
  | 48 => ⟨S_, .i32⟩
  | 49 => ⟨S255, .i32⟩
  | 50 => ⟨S255, .i32⟩
  | 51 => ⟨S_, .i32⟩
  | 52 => ⟨S255, .i32⟩
  | 53 => ⟨S255, .i32⟩
  | 54 => ⟨S1x1x255, .i32⟩
  | 55 => ⟨S1x4096x255, .i32⟩
  | 56 => ⟨S1x4096x255, .i32⟩
  | 57 => ⟨S1x4096x255, .i1⟩
  | 58 => ⟨S_, .f32⟩
  | 59 => ⟨S_, .f32⟩
  | 60 => ⟨S16x4096x255, .i1⟩
  | 61 => ⟨S16x4096x255, .f32⟩
  | 62 => ⟨S16x4096x255, .f32⟩
  | 63 => ⟨S_, .f32⟩
  | 64 => ⟨S16x4096, .f32⟩
  | 65 => ⟨S_, .f32⟩
  | 66 => ⟨S16x4096, .f32⟩
  | 67 => ⟨S16x4096, .f32⟩
  | 68 => ⟨S16x4096x1, .f32⟩
  | 69 => ⟨S16x4096x255, .f32⟩
  | 70 => ⟨S16x4096x255, .f32⟩
  | 71 => ⟨S16x4096x255, .f32⟩
  | 72 => ⟨S_, .f32⟩
  | 73 => ⟨S16x4096, .f32⟩
  | 74 => ⟨S16x4096x1, .f32⟩
  | 75 => ⟨S16x4096x255, .f32⟩
  | 76 => ⟨S16x4096x255, .f32⟩
  | 77 => ⟨S_, .i1⟩
  | 78 => ⟨S1x4096, .i1⟩
  | 79 => ⟨S1x4096x1, .i1⟩
  | 80 => ⟨S1x4096x1, .f32⟩
  | 81 => ⟨S16x4096x255, .f32⟩
  | 82 => ⟨S16x4096x255, .f32⟩
  | 83 => ⟨S16x128x4096, .f32⟩
  | 84 => ⟨S4096x16x128, .f32⟩
  | 85 => ⟨S4096x2048, .f32⟩
  | 86 => ⟨S_, .f32⟩
  | 87 => ⟨S4096x255, .f32⟩
  | 88 => ⟨S4096x64, .f32⟩
  | 89 => ⟨S4096, .i32⟩
  | 90 => ⟨S_, .i32⟩
  | 91 => ⟨S_, .i32⟩
  | 92 => ⟨S4096, .i32⟩
  | 93 => ⟨S4096, .i32⟩
  | 94 => ⟨S4096, .i32⟩
  | 95 => ⟨S_, .i32⟩
  | 96 => ⟨S4096, .i32⟩
  | 97 => ⟨S4096, .i1⟩
  | 98 => ⟨S4096, .i32⟩
  | 99 => ⟨S4096, .i32⟩
  | 100 => ⟨S_, .i32⟩
  | 101 => ⟨S4096, .i32⟩
  | 102 => ⟨S4096, .i1⟩
  | 103 => ⟨S4096, .i1⟩
  | 104 => ⟨S_, .i32⟩
  | 105 => ⟨S4096, .i32⟩
  | 106 => ⟨S4096, .i32⟩
  | 107 => ⟨S4096, .i32⟩
  | 108 => ⟨S64, .i32⟩
  | 109 => ⟨S1x64, .i32⟩
  | 110 => ⟨S4096x1, .i32⟩
  | 111 => ⟨S4096x64, .i32⟩
  | 112 => ⟨S4096x64, .i32⟩
  | 113 => ⟨S4096x64, .i1⟩
  | 114 => ⟨S4096x1, .i32⟩
  | 115 => ⟨S4096x64, .i32⟩
  | 116 => ⟨S4096x64, .i32⟩
  | 117 => ⟨S4096x64, .i32⟩
  | 118 => ⟨S_, .i32⟩
  | 119 => ⟨S1x64, .i32⟩
  | 120 => ⟨S1x64, .i1⟩
  | 121 => ⟨S_, .i32⟩
  | 122 => ⟨S4096x64, .i32⟩
  | 123 => ⟨S4096x64, .i1⟩
  | 124 => ⟨S_, .i32⟩
  | 125 => ⟨S4096x64, .i32⟩
  | 126 => ⟨S4096x64, .i1⟩
  | 127 => ⟨S4096x64, .i1⟩
  | _ => ⟨S4096x16x192, .f32⟩

abbrev hbmTy0_1 (i : Nat) : BufTy := match i % 128 with
  | 0 => ⟨S4096x64, .i1⟩
  | 1 => ⟨S4096x64, .i1⟩
  | 2 => ⟨S_, .f32⟩
  | 3 => ⟨S_, .f32⟩
  | 4 => ⟨S4096x64, .f32⟩
  | 5 => ⟨S4096x64, .f32⟩
  | 6 => ⟨S4096x64, .i1⟩
  | 7 => ⟨S_, .f32⟩
  | 8 => ⟨S_, .f32⟩
  | 9 => ⟨S4096x64, .f32⟩
  | 10 => ⟨S4096x64, .f32⟩
  | 11 => ⟨S4096x16, .f32⟩
  | 12 => ⟨S4096x16, .i32⟩
  | 13 => ⟨S4096x1x16, .i32⟩
  | _ => ⟨S4096x16x192, .f32⟩

abbrev hbmTy (i : Nat) : BufTy := match i / 128 with
  | 0 => hbmTy0_0 i
  | 1 => hbmTy0_1 i
  | _ => ⟨S4096x16x192, .f32⟩

abbrev bufTy : (tb : Table) → Fin (tcTables nBuf tb) → BufTy
  | .hbm, ⟨i, _⟩ => hbmTy i
  | _, _ => ⟨S4096x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_3 : Ref sig .tc := ⟨.hbm, 45, rfl⟩
abbrev main_v35 : Ref sig .tc := ⟨.hbm, 46, rfl⟩
abbrev main_v36 : Ref sig .tc := ⟨.hbm, 47, rfl⟩
abbrev main_c_4 : Ref sig .tc := ⟨.hbm, 48, rfl⟩
abbrev main_v37 : Ref sig .tc := ⟨.hbm, 49, rfl⟩
abbrev main_v38 : Ref sig .tc := ⟨.hbm, 50, rfl⟩
abbrev main_c_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_11 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_12 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_v6 : Ref sig .tc := ⟨.hbm, 97, rfl⟩
abbrev main_call1_v7 : Ref sig .tc := ⟨.hbm, 98, rfl⟩
abbrev main_call1_v8 : Ref sig .tc := ⟨.hbm, 99, rfl⟩
abbrev main_call1_c : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_call1_c_0 : Ref sig .tc := ⟨.hbm, 104, rfl⟩
abbrev main_call1_v12 : Ref sig .tc := ⟨.hbm, 105, rfl⟩
abbrev main_call1_v13 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_c_13 : Ref sig .tc := ⟨.hbm, 118, rfl⟩
abbrev main_v79 : Ref sig .tc := ⟨.hbm, 119, rfl⟩
abbrev main_v80 : Ref sig .tc := ⟨.hbm, 120, rfl⟩
abbrev main_c_14 : Ref sig .tc := ⟨.hbm, 121, rfl⟩
abbrev main_v81 : Ref sig .tc := ⟨.hbm, 122, rfl⟩
abbrev main_v82 : Ref sig .tc := ⟨.hbm, 123, rfl⟩
abbrev main_c_15 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_16 : Ref sig .tc := ⟨.hbm, 130, rfl⟩
abbrev main_call2_v0 : Ref sig .tc := ⟨.hbm, 131, rfl⟩
abbrev main_call2_v1 : Ref sig .tc := ⟨.hbm, 132, rfl⟩
abbrev main_v88 : Ref sig .tc := ⟨.hbm, 133, rfl⟩
abbrev main_v89 : Ref sig .tc := ⟨.hbm, 134, rfl⟩
abbrev main_cst_17 : Ref sig .tc := ⟨.hbm, 135, rfl⟩
abbrev main_call3_v0 : Ref sig .tc := ⟨.hbm, 136, rfl⟩
abbrev main_call3_v1 : Ref sig .tc := ⟨.hbm, 137, rfl⟩
abbrev main_v90 : Ref sig .tc := ⟨.hbm, 138, rfl⟩
abbrev main_values : Ref sig .tc := ⟨.hbm, 139, rfl⟩
abbrev main_indices : Ref sig .tc := ⟨.hbm, 140, rfl⟩
abbrev main_v91 : Ref sig .tc := ⟨.hbm, 141, rfl⟩

abbrev nD : Nat := 1
abbrev τ : Topo := Topo.v7x

variable {F : FTy → Type} [FloatOps F]
-- ==== Proof.KernelIdeal.Compress.lean ====
/-
The first call's body: what each of its two points reads and leaves, and the proof that it leaves exactly that.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Compress

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what each core's buffers hold as the call begins
variable (W : Dev nD → Valuation τ sig (Elt F))

/-- The contents of one buffer of core `c` as the call begins. -/
abbrev V (c : Dev nD) (b : Ref sig .tc) : Buf (Elt F) ((c : Thread nD τ).loc b) := W c (Proc.devRef .tc b)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V W c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V W c (Pipeline.arrRef spec0 0))
    (hafter : ∀ t, dat.after 0 t = iblk W c 0 t) (t : Fin cfg0.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V W c (Pipeline.arrRef spec0 1))
    (hafter : ∀ t, dat.after 1 t = iblk W c 1 t) (t : Fin cfg0.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V W c (Pipeline.arrRef spec0 2))
    (hafter : ∀ t, dat.after 2 t = iblk W c 2 t) (t : Fin cfg0.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V W c (Pipeline.arrRef spec0 3))
    (hafter : ∀ t, dat.after 3 t = iblk W c 3 t) (t : Fin cfg0.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev first (i : grid0.Coords) : Prop := k0_cond1 i = 1#1
/-- It holds at the first point only — by arithmetic of the point. -/
theorem first_iff : ∀ t : Fin cfg0.N, first (grid0.coords t) ↔ t.val % 2 = 0 :=
  (fun t => by
    have ht : t.val < 2 := Nat.lt_of_lt_of_eq t.isLt N_0
    have e0 : (grid0.coords t 0).val = t.val / 1 % 2 := Pipeline.Grid.coords_val t 0 (by decide) rfl
    simp only [first, k0_cond1, e0]
    word_cmp
   : ∀ t : Fin grid0.N, first (grid0.coords t) ↔ t.val % 2 = 0)

/-- The condition of the body's `scf.if` 1 (`k0_h2`), from the grid coordinates (the skeleton's scalar
    chain substituted). -/
abbrev last (i : grid0.Coords) : Prop := k0_cond2 i = 1#1
/-- It holds at the last point only — by arithmetic of the point. -/
theorem last_iff : ∀ t : Fin cfg0.N, last (grid0.coords t) ↔ t.val % 2 = 1 :=
  (fun t => by
    have ht : t.val < 2 := Nat.lt_of_lt_of_eq t.isLt N_0
    have e0 : (grid0.coords t 0).val = t.val / 1 % 2 := Pipeline.Grid.coords_val t 0 (by decide) rfl
    simp only [last, k0_cond2, e0]
    word_cmp
   : ∀ t : Fin grid0.N, last (grid0.coords t) ↔ t.val % 2 = 1)

/-! ## What the body leaves -/

/-- The whole of a buffer, as the body's loads and stores name it. -/
abbrev rS : Rect S256x512 := Rect.unit (s := S256x512) ![0, 0] S256x512.size inb_S256x512_S256x512_0_0
abbrev rX : Rect S256x8192 := Rect.unit (s := S256x8192) ![0, 0] S256x8192.size inb_S256x8192_S256x8192_0_0
abbrev rY : Rect S256x2048 := Rect.unit (s := S256x2048) ![0, 0] S256x2048.size inb_S256x2048_S256x2048_0_0
abbrev rW : Rect S8192x512 := Rect.unit (s := S8192x512) ![0, 0] S8192x512.size inb_S8192x512_S8192x512_0_0
abbrev rU : Rect S2048x64 := Rect.unit (s := S2048x64) ![0, 0] S2048x64.size inb_S2048x64_S2048x64_0_0

/-- One step of the accumulation: what was there plus the point's product. -/
def step (a : Vec F S256x512 .f32) (x0 : Vec F S256x8192 .f32) (x2 : Vec F S8192x512 .f32) : Vec F S256x512 .f32 :=
  k0_pay3 a (View.ld x0 rX) (View.ld x2 rW)

/-- The positional rows, computed at the first point. -/
def pos (x1 : Vec F S256x2048 .f32) (x3 : Vec F S2048x64 .f32) : Vec F S256x64 .f32 :=
  k0_pay2 (View.ld x1 rY) (View.ld x3 rU)

/-! ## The body's triples -/

set_option maxHeartbeats 1000000 in
/-- The body at the first point: the positional rows are stored and the accumulator is started. -/
theorem sound_first (c : Dev nD) (i : grid0.Coords) (arg1 : Memref sig .tc .vmem S256x8192 .f32) (harg1 : arg1.IsWhole) (arg2 : Memref sig .tc .vmem S256x2048 .f32) (harg2 : arg2.IsWhole) (arg3 : Memref sig .tc .vmem S8192x512 .f32) (harg3 : arg3.IsWhole) (arg4 : Memref sig .tc .vmem S2048x64 .f32) (harg4 : arg4.IsWhole) (arg5 : Memref sig .tc .vmem S256x512 .f32) (harg5 : arg5.IsWhole) (arg6 : Memref sig .tc .vmem S256x64 .f32) (harg6 : arg6.IsWhole) (arg7 : Memref sig .tc .vmem S256x512 .f32) (harg7 : arg7.IsWhole) (hc0 : first i) (hc1 : ¬ last i)
    (x0 : Vec F S256x8192 .f32) (x1 : Vec F S256x2048 .f32) (x2 : Vec F S8192x512 .f32) (x3 : Vec F S2048x64 .f32) (d4 : Vec F S256x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d4 ∗ owns (c : Thread nD τ) arg6 fullShare (pos x1 x3) ∗ owns (c : Thread nD τ) arg7 fullShare (step (k0_pay1 (F := F)) x0 x2)) -∗ K ⟨⟩))
      ⊢ wp frame (wpE (defs₀ (F := F)) Variants.none c none) E (cc0__compress_body i arg1 harg1 arg2 harg2 arg3 harg3 arg4 harg4 arg5 harg5 arg6 harg6 arg7 harg7) K := by
  simp only [cc0__compress_body_eq_skeleton]; unfold cc0__compress_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_full _ _ inb_S256x64_S256x64_0_0 _ _
  iexists _; isplitr
  swap; · iexact H6
  ipureintro
  refine (View.read_writes_full _ _ _ _ _).trans ?_
  exact congrArg (fun a => k0_pay3 a _ _) (View.readCov_full _ _ _ _ _)

set_option maxHeartbeats 1000000 in
/-- The body at the last point: the accumulator is finished and copied out. -/
theorem sound_last (c : Dev nD) (i : grid0.Coords) (arg1 : Memref sig .tc .vmem S256x8192 .f32) (harg1 : arg1.IsWhole) (arg2 : Memref sig .tc .vmem S256x2048 .f32) (harg2 : arg2.IsWhole) (arg3 : Memref sig .tc .vmem S8192x512 .f32) (harg3 : arg3.IsWhole) (arg4 : Memref sig .tc .vmem S2048x64 .f32) (harg4 : arg4.IsWhole) (arg5 : Memref sig .tc .vmem S256x512 .f32) (harg5 : arg5.IsWhole) (arg6 : Memref sig .tc .vmem S256x64 .f32) (harg6 : arg6.IsWhole) (arg7 : Memref sig .tc .vmem S256x512 .f32) (harg7 : arg7.IsWhole) (hc0 : ¬ first i) (hc1 : last i)
    (x0 : Vec F S256x8192 .f32) (x1 : Vec F S256x2048 .f32) (x2 : Vec F S8192x512 .f32) (x3 : Vec F S2048x64 .f32) (d5 : Vec F S256x64 .f32) (a : Vec F S256x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare d5 ∗ owns (c : Thread nD τ) arg7 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (step a x0 x2) ∗ owns (c : Thread nD τ) arg6 fullShare d5 ∗ owns (c : Thread nD τ) arg7 fullShare (step a x0 x2)) -∗ K ⟨⟩))
      ⊢ wp frame (wpE (defs₀ (F := F)) Variants.none c none) E (cc0__compress_body i arg1 harg1 arg2 harg2 arg3 harg3 arg4 harg4 arg5 harg5 arg6 harg6 arg7 harg7) K := by
  simp only [cc0__compress_body_eq_skeleton]; unfold cc0__compress_body_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0 hf1 hf2 hf3 hf5 hf6
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_full _ _ _ _ _).trans ((View.readCov_full _ _ _ _ _).trans ?_)
    exact congrArg (fun a => k0_pay3 a _ _) (View.readAt_full _ _ _)
  isplitl [H5]
  · iexists f5; isplitr; · ipureintro; rfl
    iexact H5
  iexists _; isplitr
  swap; · iexact H6
  ipureintro
  refine (View.read_writes_full _ _ _ _ _).trans ?_
  exact congrArg (fun a => k0_pay3 a _ _) (View.readAt_full _ _ _)

/-! ## The proof data -/

/-- The two points. -/
abbrev t0 : Fin cfg0.N := ⟨0, by rw [show cfg0.N = 2 from N_0]; decide⟩
abbrev t1 : Fin cfg0.N := ⟨1, by rw [show cfg0.N = 2 from N_0]; decide⟩

theorem eq_t0 (t : Fin cfg0.N) (h : t.val % 2 = 0) : t = t0 :=
  Fin.ext (by have := lt_of_lt_of_eq t.isLt N_0; show t.val = 0; omega)
theorem eq_t1 (t : Fin cfg0.N) (h : ¬ t.val % 2 = 0) : t = t1 :=
  Fin.ext (by have := lt_of_lt_of_eq t.isLt N_0; show t.val = 1; omega)

/-- The accumulator after the first point. -/
def acc1 (c : Dev nD) : Vec F S256x512 .f32 := step (k0_pay1 (F := F)) (iblk W c 0 t0) (iblk W c 2 t0)
/-- The accumulator after the last point. -/
def acc2 (c : Dev nD) : Vec F S256x512 .f32 := step (acc1 W c) (iblk W c 0 t1) (iblk W c 2 t1)
/-- The positional rows. -/
def kpe (c : Dev nD) : Vec F S256x64 .f32 := pos (iblk W c 1 t0) (iblk W c 3 t0)

/-- The buffers of the other calls, at anything. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f))

/-- The accumulator's buffer. -/
abbrev scratch : Memref sig .tc .vmem S256x512 .f32 := Memref.whole cc0_scratch0

/-- What a point finds beside its windows: the accumulator at `x`, the other calls' buffers, the generator register. -/
def holds (c : Dev nD) (x : Vec F S256x512 .f32) : sProp 𝕄 :=
  iprop((owns (c : Thread nD τ) scratch fullShare x ∗ others (F := F) c) ∗ (∃ r, prngReg c r))

theorem ΦA_eq (c : Dev nD) :
    (Pipeline.ΦA spec0 c : sProp 𝕄)
      = iprop(((∃ d, owns (c : Thread nD τ) scratch fullShare d) ∗ others (F := F) c) ∗ (∃ r, prngReg c r)) := by
  unfold Pipeline.ΦA others; rw [scopedRest0_eq]; simp only [scratch, owns_whole]; try rfl

/-- The invariant before position `n`. -/
def inv (c : Dev nD) : ℕ → sProp 𝕄
  | 0 => Pipeline.ΦA spec0 c
  | 1 => holds c (acc1 W c)
  | _ => holds c (acc2 W c)

/-- The proof data of the call on core `c`. -/
def dat (c : Dev nD) : Dat τ (Elt F) Unit ℕ (UR sig nD τ) ℕ cfg0 c where
  A w := V W c (Pipeline.arrRef spec0 w)
  after w t := match w with
    | ⟨0, _⟩ => iblk W c 0 t
    | ⟨1, _⟩ => iblk W c 1 t
    | ⟨2, _⟩ => iblk W c 2 t
    | ⟨3, _⟩ => iblk W c 3 t
    | ⟨4, _⟩ => acc2 W c
    | ⟨5, _⟩ => kpe W c
  Φ t := inv W c t.val
  q _ := fullShare
  owed _ := 0

theorem A_eq (c : Dev nD) (w : Fin cfg0.W) : (dat W c).A w = V W c (Pipeline.arrRef spec0 w) := by
  dsimp only [dat]

theorem after0_0 (c : Dev nD) (t : Fin cfg0.N) : (dat W c).after 0 t = iblk W c 0 t := by dsimp only [dat]
theorem after0_1 (c : Dev nD) (t : Fin cfg0.N) : (dat W c).after 1 t = iblk W c 1 t := by dsimp only [dat]
theorem after0_2 (c : Dev nD) (t : Fin cfg0.N) : (dat W c).after 2 t = iblk W c 2 t := by dsimp only [dat]
theorem after0_3 (c : Dev nD) (t : Fin cfg0.N) : (dat W c).after 3 t = iblk W c 3 t := by dsimp only [dat]
theorem after0_4 (c : Dev nD) (t : Fin cfg0.N) : (dat W c).after 4 t = acc2 W c := by dsimp only [dat]
theorem after0_5 (c : Dev nD) (t : Fin cfg0.N) : (dat W c).after 5 t = kpe W c := by dsimp only [dat]

theorem before0_0 (c : Dev nD) (t : Fin cfg0.N) (d) : (dat W c).before 0 t d = iblk W c 0 t :=
  before0_0_of W (dat W c) (A_eq W c 0) (after0_0 W c) t d
theorem before0_1 (c : Dev nD) (t : Fin cfg0.N) (d) : (dat W c).before 1 t d = iblk W c 1 t :=
  before0_1_of W (dat W c) (A_eq W c 1) (after0_1 W c) t d
theorem before0_2 (c : Dev nD) (t : Fin cfg0.N) (d) : (dat W c).before 2 t d = iblk W c 2 t :=
  before0_2_of W (dat W c) (A_eq W c 2) (after0_2 W c) t d
theorem before0_3 (c : Dev nD) (t : Fin cfg0.N) (d) : (dat W c).before 3 t d = iblk W c 3 t :=
  before0_3_of W (dat W c) (A_eq W c 3) (after0_3 W c) t d

theorem live5_t0 : cfg0.idle 5 (cfg0.grid.coords t0) = false := by
  have h := (first_iff t0).mpr rfl
  show (!(k0_cond1 (grid0.coords t0) == 1#1)) = false
  rw [show k0_cond1 (grid0.coords t0) = 1#1 from h]; rfl
theorem idle4_t0 : cfg0.idle 4 (cfg0.grid.coords t0) = true := by
  have h : ¬ last (grid0.coords t0) := fun h => absurd ((last_iff t0).mp h) (by decide)
  show (!(k0_cond2 (grid0.coords t0) == 1#1)) = true
  rw [beq_eq_false_iff_ne.mpr h]; rfl
theorem live4_t1 : cfg0.idle 4 (cfg0.grid.coords t1) = false := by
  have h := (last_iff t1).mpr rfl
  show (!(k0_cond2 (grid0.coords t1) == 1#1)) = false
  rw [show k0_cond2 (grid0.coords t1) = 1#1 from h]; rfl
theorem idle5_t1 : cfg0.idle 5 (cfg0.grid.coords t1) = true := by
  have h : ¬ first (grid0.coords t1) := fun h => absurd ((first_iff t1).mp h) (by decide)
  show (!(k0_cond1 (grid0.coords t1) == 1#1)) = true
  rw [beq_eq_false_iff_ne.mpr h]; rfl
theorem keep4_t0 : (cfg0.win 4).flush t0 = false :=
  eq_false_of_ne_true fun h => absurd ((flush0_4 t0).mp h) (by decide)
theorem keep5_t0 : (cfg0.win 5).flush t0 = false :=
  eq_false_of_ne_true fun h => absurd ((flush0_5 t0).mp h) (by decide)
theorem flush5_t1 : (cfg0.win 5).flush t1 = true := (flush0_5 t1).mpr rfl

/-- The last point finds the positional rows where the first one stored them. -/
theorem before5_t1 (c : Dev nD) (d) : (dat W c).before 5 t1 d = kpe W c := by
  rw [Dat.before_of_pos (dat W c) 5 t1 (by decide) rfl d]
  rw [show (⟨t1.val - 1, Nat.lt_of_le_of_lt (Nat.sub_le _ _) t1.isLt⟩ : Fin cfg0.N) = t0 from rfl, keep5_t0]
  rw [if_neg Bool.false_ne_true]
  unfold Dat.left
  rw [live5_t0]
  exact rfl

/-! ## The body obligation -/

/-- What the body is called with at point `t`, -/
def bodyPre (c : Dev nD) (t : Fin cfg0.N) : sProp 𝕄 :=
  iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d))
    ∗ (∃ d, owns (c : Thread nD τ) (st0_3 t) fullShare ((dat W c).before 3 t d))
    ∗ (∃ d, owns (c : Thread nD τ) (st0_4 t) fullShare ((dat W c).before 4 t d))
    ∗ (∃ d, owns (c : Thread nD τ) (st0_5 t) fullShare ((dat W c).before 5 t d)))

/-- and what it returns. -/
def bodyPost (c : Dev nD) (t : Fin cfg0.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t
    ∗ (dat W c).leavesExact 5 t)

theorem leaves0_0 (c : Dev nD) (t : Fin cfg0.N) : ((dat W c).leavesExact 0 t : sProp 𝕄) = owns (c : Thread nD τ) (st0_0 t) fullShare (iblk W c 0 t) := by
  unfold Dat.leavesExact; rw [show cfg0.idle 0 (cfg0.grid.coords t) = false from rfl, after0_0]
theorem leaves0_1 (c : Dev nD) (t : Fin cfg0.N) : ((dat W c).leavesExact 1 t : sProp 𝕄) = owns (c : Thread nD τ) (st0_1 t) fullShare (iblk W c 1 t) := by
  unfold Dat.leavesExact; rw [show cfg0.idle 1 (cfg0.grid.coords t) = false from rfl, after0_1]
theorem leaves0_2 (c : Dev nD) (t : Fin cfg0.N) : ((dat W c).leavesExact 2 t : sProp 𝕄) = owns (c : Thread nD τ) (st0_2 t) fullShare (iblk W c 2 t) := by
  unfold Dat.leavesExact; rw [show cfg0.idle 2 (cfg0.grid.coords t) = false from rfl, after0_2]
theorem leaves0_3 (c : Dev nD) (t : Fin cfg0.N) : ((dat W c).leavesExact 3 t : sProp 𝕄) = owns (c : Thread nD τ) (st0_3 t) fullShare (iblk W c 3 t) := by
  unfold Dat.leavesExact; rw [show cfg0.idle 3 (cfg0.grid.coords t) = false from rfl, after0_3]
theorem leaves4_t0 (c : Dev nD) : ((dat W c).leavesExact 4 t0 : sProp 𝕄) = iprop(∃ d, owns (c : Thread nD τ) (st0_4 t0) fullShare ((dat W c).before 4 t0 d)) :=
  Dat.leavesExact_idle (dat W c) 4 t0 idle4_t0 keep4_t0
theorem leaves5_t0 (c : Dev nD) : ((dat W c).leavesExact 5 t0 : sProp 𝕄) = owns (c : Thread nD τ) (st0_5 t0) fullShare (kpe W c) := by
  unfold Dat.leavesExact; rw [live5_t0, after0_5]
theorem leaves4_t1 (c : Dev nD) : ((dat W c).leavesExact 4 t1 : sProp 𝕄) = owns (c : Thread nD τ) (st0_4 t1) fullShare (acc2 W c) := by
  unfold Dat.leavesExact; rw [live4_t1, after0_4]
theorem leaves5_t1 (c : Dev nD) : ((dat W c).leavesExact 5 t1 : sProp 𝕄) = owns (c : Thread nD τ) (st0_5 t1) fullShare (kpe W c) := by
  unfold Dat.leavesExact; rw [idle5_t1, flush5_t1, after0_5]

set_option maxHeartbeats 1000000 in
/-- The body at either point. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before0_0, before0_1, before0_2, before0_3, leaves0_0, leaves0_1, leaves0_2, leaves0_3]
  rw [show (dat W c).owesAt () t.succ = (dat W c).owesAt () t.castSucc from rfl]
  by_cases h : t.val % 2 = 0
  · have hc0 := (first_iff t).mpr h
    have hc1 : ¬ last (grid0.coords t) := fun h' => by have := (last_iff t).mp h'; omega
    obtain rfl := eq_t0 t h
    rw [leaves4_t0, leaves5_t0]
    rw [show (dat W c).Φ t0.castSucc = Pipeline.ΦA spec0 c from rfl, ΦA_eq,
      show (dat W c).Φ t0.succ = holds c (acc1 W c) from rfl]
    unfold holds
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply (sound_first c (grid0.coords t0) _ _ _ _ _ _ _ _ _ _ _ _ _ _ hc0 hc1 (iblk W c 0 t0) (iblk W c 1 t0) (iblk W c 2 t0) (iblk W c 3 t0) _ Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexists d4; iexact H4
    iexact H5
  · have hc0 : ¬ first (grid0.coords t) := fun h' => h ((first_iff t).mp h')
    have hc1 := (last_iff t).mpr (show t.val % 2 = 1 by omega)
    obtain rfl := eq_t1 t h
    rw [leaves4_t1, leaves5_t1]
    simp only [before5_t1]
    rw [show (dat W c).Φ t1.castSucc = holds c (acc1 W c) from rfl,
      show (dat W c).Φ t1.succ = holds c (acc2 W c) from rfl]
    unfold holds
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply (sound_last c (grid0.coords t1) _ _ _ _ _ _ _ _ _ _ _ _ _ _ hc0 hc1 (iblk W c 0 t1) (iblk W c 1 t1) (iblk W c 2 t1) (iblk W c 3 t1) (kpe W c) (acc1 W c) Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dat (F := F) W c) (defs₀ (F := F)) Variants.none () Set.univ := fun t => by
  rw [bigSep_W0, bigSep_W0, defs₀_row]
  exact triple_restated (sound_body W c t) rfl .rfl fun _ => .rfl

/-- What the region is handed is the invariant before the first point, -/
theorem hin (c : Dev nD) : Pipeline.ΦA spec0 c ⊢ (dat W c).Φ 0 := by
  rw [show (dat W c).Φ 0 = Pipeline.ΦA spec0 c from rfl]
  try exact Idealize.SL.BI.Entails.refl _

/-- and the invariant after the last point gives it back. -/
theorem hout (c : Dev nD) : (dat W c).Φ (Fin.last cfg0.N) ⊢ Pipeline.ΦA spec0 c := by
  rw [show (dat W c).Φ (Fin.last cfg0.N) = inv W c cfg0.N from rfl, show cfg0.N = 2 from N_0, ΦA_eq]
  show holds c (acc2 W c) ⊢ _
  unfold holds
  iintro ⟨⟨HS, HR⟩, Hg⟩
  isplitl [HS HR]
  · isplitl [HS]
    · iexists _; iexact HS
    iexact HR
  iexact Hg

end Cert.KernelIdeal.Compress

end
-- ==== Proof.KernelIdeal.Kvb.lean ====
/-
The second call's body: what it reads and what it leaves in the two output blocks, and the proof that the body
leaves exactly that.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Kvb

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what each core's buffers hold as the call begins
variable (W : Dev nD → Valuation τ sig (Elt F))

/-- The contents of one buffer of core `c` as the call begins. -/
abbrev V (c : Dev nD) (b : Ref sig .tc) : Buf (Elt F) ((c : Thread nD τ).loc b) := W c (Proc.devRef .tc b)

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V W c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V W c (Pipeline.arrRef spec1 0))
    (hafter : ∀ t, dat.after 0 t = iblk W c 0 t) (t : Fin cfg1.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V W c (Pipeline.arrRef spec1 1))
    (hafter : ∀ t, dat.after 1 t = iblk W c 1 t) (t : Fin cfg1.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V W c (Pipeline.arrRef spec1 2))
    (hafter : ∀ t, dat.after 2 t = iblk W c 2 t) (t : Fin cfg1.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r1_0 : Rect S256x512 := Rect.unit (s := S256x512) ![0, 0] S256x512.size inb_S256x512_S256x512_0_0
abbrev r1_1 : Rect S512x4096 := Rect.unit (s := S512x4096) ![0, 0] S512x4096.size inb_S512x4096_S512x4096_0_0
abbrev r1_2 : Rect S256x64 := Rect.unit (s := S256x64) ![0, 0] S256x64.size inb_S256x64_S256x64_0_0
abbrev r1_3 : Rect S16x256x192 := Rect.unit (s := S16x256x192) ![0, 0, 0] S1x256x192.size inb_S16x256x192_S1x256x192_0_0_0
abbrev r1_4 : Rect S16x256x128 := Rect.unit (s := S16x256x128) ![0, 0, 0] S1x256x128.size inb_S16x256x128_S1x256x128_0_0_0
abbrev r1_5 : Rect S16x256x192 := Rect.unit (s := S16x256x192) ![1, 0, 0] S1x256x192.size inb_S16x256x192_S1x256x192_1_0_0
abbrev r1_6 : Rect S16x256x128 := Rect.unit (s := S16x256x128) ![1, 0, 0] S1x256x128.size inb_S16x256x128_S1x256x128_1_0_0
abbrev r1_7 : Rect S16x256x192 := Rect.unit (s := S16x256x192) ![2, 0, 0] S1x256x192.size inb_S16x256x192_S1x256x192_2_0_0
abbrev r1_8 : Rect S16x256x128 := Rect.unit (s := S16x256x128) ![2, 0, 0] S1x256x128.size inb_S16x256x128_S1x256x128_2_0_0
abbrev r1_9 : Rect S16x256x192 := Rect.unit (s := S16x256x192) ![3, 0, 0] S1x256x192.size inb_S16x256x192_S1x256x192_3_0_0
abbrev r1_10 : Rect S16x256x128 := Rect.unit (s := S16x256x128) ![3, 0, 0] S1x256x128.size inb_S16x256x128_S1x256x128_3_0_0
abbrev r1_11 : Rect S16x256x192 := Rect.unit (s := S16x256x192) ![4, 0, 0] S1x256x192.size inb_S16x256x192_S1x256x192_4_0_0
abbrev r1_12 : Rect S16x256x128 := Rect.unit (s := S16x256x128) ![4, 0, 0] S1x256x128.size inb_S16x256x128_S1x256x128_4_0_0
abbrev r1_13 : Rect S16x256x192 := Rect.unit (s := S16x256x192) ![5, 0, 0] S1x256x192.size inb_S16x256x192_S1x256x192_5_0_0
abbrev r1_14 : Rect S16x256x128 := Rect.unit (s := S16x256x128) ![5, 0, 0] S1x256x128.size inb_S16x256x128_S1x256x128_5_0_0
abbrev r1_15 : Rect S16x256x192 := Rect.unit (s := S16x256x192) ![6, 0, 0] S1x256x192.size inb_S16x256x192_S1x256x192_6_0_0
abbrev r1_16 : Rect S16x256x128 := Rect.unit (s := S16x256x128) ![6, 0, 0] S1x256x128.size inb_S16x256x128_S1x256x128_6_0_0
abbrev r1_17 : Rect S16x256x192 := Rect.unit (s := S16x256x192) ![7, 0, 0] S1x256x192.size inb_S16x256x192_S1x256x192_7_0_0
abbrev r1_18 : Rect S16x256x128 := Rect.unit (s := S16x256x128) ![7, 0, 0] S1x256x128.size inb_S16x256x128_S1x256x128_7_0_0
abbrev r1_19 : Rect S16x256x192 := Rect.unit (s := S16x256x192) ![8, 0, 0] S1x256x192.size inb_S16x256x192_S1x256x192_8_0_0
abbrev r1_20 : Rect S16x256x128 := Rect.unit (s := S16x256x128) ![8, 0, 0] S1x256x128.size inb_S16x256x128_S1x256x128_8_0_0
abbrev r1_21 : Rect S16x256x192 := Rect.unit (s := S16x256x192) ![9, 0, 0] S1x256x192.size inb_S16x256x192_S1x256x192_9_0_0
abbrev r1_22 : Rect S16x256x128 := Rect.unit (s := S16x256x128) ![9, 0, 0] S1x256x128.size inb_S16x256x128_S1x256x128_9_0_0
abbrev r1_23 : Rect S16x256x192 := Rect.unit (s := S16x256x192) ![10, 0, 0] S1x256x192.size inb_S16x256x192_S1x256x192_10_0_0
abbrev r1_24 : Rect S16x256x128 := Rect.unit (s := S16x256x128) ![10, 0, 0] S1x256x128.size inb_S16x256x128_S1x256x128_10_0_0
abbrev r1_25 : Rect S16x256x192 := Rect.unit (s := S16x256x192) ![11, 0, 0] S1x256x192.size inb_S16x256x192_S1x256x192_11_0_0
abbrev r1_26 : Rect S16x256x128 := Rect.unit (s := S16x256x128) ![11, 0, 0] S1x256x128.size inb_S16x256x128_S1x256x128_11_0_0
abbrev r1_27 : Rect S16x256x192 := Rect.unit (s := S16x256x192) ![12, 0, 0] S1x256x192.size inb_S16x256x192_S1x256x192_12_0_0
abbrev r1_28 : Rect S16x256x128 := Rect.unit (s := S16x256x128) ![12, 0, 0] S1x256x128.size inb_S16x256x128_S1x256x128_12_0_0
abbrev r1_29 : Rect S16x256x192 := Rect.unit (s := S16x256x192) ![13, 0, 0] S1x256x192.size inb_S16x256x192_S1x256x192_13_0_0
abbrev r1_30 : Rect S16x256x128 := Rect.unit (s := S16x256x128) ![13, 0, 0] S1x256x128.size inb_S16x256x128_S1x256x128_13_0_0
abbrev r1_31 : Rect S16x256x192 := Rect.unit (s := S16x256x192) ![14, 0, 0] S1x256x192.size inb_S16x256x192_S1x256x192_14_0_0
abbrev r1_32 : Rect S16x256x128 := Rect.unit (s := S16x256x128) ![14, 0, 0] S1x256x128.size inb_S16x256x128_S1x256x128_14_0_0
abbrev r1_33 : Rect S16x256x192 := Rect.unit (s := S16x256x192) ![15, 0, 0] S1x256x192.size inb_S16x256x192_S1x256x192_15_0_0
abbrev r1_34 : Rect S16x256x128 := Rect.unit (s := S16x256x128) ![15, 0, 0] S1x256x128.size inb_S16x256x128_S1x256x128_15_0_0

/-! ## What the body leaves in each output window's buffer -/

/-- The compressed rows through the heads' projection. -/
def proj (x0 : Vec F S256x512 .f32) (x2 : Vec F S512x4096 .f32) : FVec F S256x4096 .f32 := k1_pay7 x0 x2

/-- One head's keys: its 128 columns of the projection beginning at `o`, then the shared positional columns. -/
def keys (o : Fin 2 → ℕ) (hs : S256x4096.Slices o S256x128) (p : FVec F S256x4096 .f32) (x1 : FVec F S256x64 .f32) : FVec F S1x256x192 .f32 :=
  shapeCast S1x256x192 (concatenate S256x192 1 [⟨S256x128, extractStridedSlice S256x128 o p hs⟩, ⟨S256x64, k1_pay8 x1⟩] concatenates_S256x128_S256x64_S256x192_d1) shapeCasts_S256x192_S1x256x192

/-- One head's values: its 128 columns of the projection beginning at `o`. -/
def vals (o : Fin 2 → ℕ) (hs : S256x4096.Slices o S256x128) (p : FVec F S256x4096 .f32) : FVec F S1x256x128 .f32 :=
  shapeCast S1x256x128 (extractStridedSlice S256x128 o p hs) shapeCasts_S256x128_S1x256x128

/-- What the call writes to its first output: the heads' keys. -/
def out1_3 (x0 : Vec F S256x512 .f32) (x1 : Vec F S256x64 .f32) (x2 : Vec F S512x4096 .f32) : Vec F S16x256x192 .f32 :=
  View.canon [⟨r1_33, keys ![0, 3840] slices_S256x4096_o0_3840_S256x128 (proj (View.ld x0 r1_0) (View.ld x2 r1_1)) (View.ld x1 r1_2)⟩,
    ⟨r1_31, keys ![0, 3584] slices_S256x4096_o0_3584_S256x128 (proj (View.ld x0 r1_0) (View.ld x2 r1_1)) (View.ld x1 r1_2)⟩,
    ⟨r1_29, keys ![0, 3328] slices_S256x4096_o0_3328_S256x128 (proj (View.ld x0 r1_0) (View.ld x2 r1_1)) (View.ld x1 r1_2)⟩,
    ⟨r1_27, keys ![0, 3072] slices_S256x4096_o0_3072_S256x128 (proj (View.ld x0 r1_0) (View.ld x2 r1_1)) (View.ld x1 r1_2)⟩,
    ⟨r1_25, keys ![0, 2816] slices_S256x4096_o0_2816_S256x128 (proj (View.ld x0 r1_0) (View.ld x2 r1_1)) (View.ld x1 r1_2)⟩,
    ⟨r1_23, keys ![0, 2560] slices_S256x4096_o0_2560_S256x128 (proj (View.ld x0 r1_0) (View.ld x2 r1_1)) (View.ld x1 r1_2)⟩,
    ⟨r1_21, keys ![0, 2304] slices_S256x4096_o0_2304_S256x128 (proj (View.ld x0 r1_0) (View.ld x2 r1_1)) (View.ld x1 r1_2)⟩,
    ⟨r1_19, keys ![0, 2048] slices_S256x4096_o0_2048_S256x128 (proj (View.ld x0 r1_0) (View.ld x2 r1_1)) (View.ld x1 r1_2)⟩,
    ⟨r1_17, keys ![0, 1792] slices_S256x4096_o0_1792_S256x128 (proj (View.ld x0 r1_0) (View.ld x2 r1_1)) (View.ld x1 r1_2)⟩,
    ⟨r1_15, keys ![0, 1536] slices_S256x4096_o0_1536_S256x128 (proj (View.ld x0 r1_0) (View.ld x2 r1_1)) (View.ld x1 r1_2)⟩,
    ⟨r1_13, keys ![0, 1280] slices_S256x4096_o0_1280_S256x128 (proj (View.ld x0 r1_0) (View.ld x2 r1_1)) (View.ld x1 r1_2)⟩,
    ⟨r1_11, keys ![0, 1024] slices_S256x4096_o0_1024_S256x128 (proj (View.ld x0 r1_0) (View.ld x2 r1_1)) (View.ld x1 r1_2)⟩,
    ⟨r1_9, keys ![0, 768] slices_S256x4096_o0_768_S256x128 (proj (View.ld x0 r1_0) (View.ld x2 r1_1)) (View.ld x1 r1_2)⟩,
    ⟨r1_7, keys ![0, 512] slices_S256x4096_o0_512_S256x128 (proj (View.ld x0 r1_0) (View.ld x2 r1_1)) (View.ld x1 r1_2)⟩,
    ⟨r1_5, keys ![0, 256] slices_S256x4096_o0_256_S256x128 (proj (View.ld x0 r1_0) (View.ld x2 r1_1)) (View.ld x1 r1_2)⟩,
    ⟨r1_3, keys ![0, 0] slices_S256x4096_o0_0_S256x128 (proj (View.ld x0 r1_0) (View.ld x2 r1_1)) (View.ld x1 r1_2)⟩]

/-- What the call writes to its second output: the heads' values. -/
def out1_4 (x0 : Vec F S256x512 .f32) (x1 : Vec F S256x64 .f32) (x2 : Vec F S512x4096 .f32) : Vec F S16x256x128 .f32 :=
  View.canon [⟨r1_34, vals ![0, 3968] slices_S256x4096_o0_3968_S256x128 (proj (View.ld x0 r1_0) (View.ld x2 r1_1))⟩,
    ⟨r1_32, vals ![0, 3712] slices_S256x4096_o0_3712_S256x128 (proj (View.ld x0 r1_0) (View.ld x2 r1_1))⟩,
    ⟨r1_30, vals ![0, 3456] slices_S256x4096_o0_3456_S256x128 (proj (View.ld x0 r1_0) (View.ld x2 r1_1))⟩,
    ⟨r1_28, vals ![0, 3200] slices_S256x4096_o0_3200_S256x128 (proj (View.ld x0 r1_0) (View.ld x2 r1_1))⟩,
    ⟨r1_26, vals ![0, 2944] slices_S256x4096_o0_2944_S256x128 (proj (View.ld x0 r1_0) (View.ld x2 r1_1))⟩,
    ⟨r1_24, vals ![0, 2688] slices_S256x4096_o0_2688_S256x128 (proj (View.ld x0 r1_0) (View.ld x2 r1_1))⟩,
    ⟨r1_22, vals ![0, 2432] slices_S256x4096_o0_2432_S256x128 (proj (View.ld x0 r1_0) (View.ld x2 r1_1))⟩,
    ⟨r1_20, vals ![0, 2176] slices_S256x4096_o0_2176_S256x128 (proj (View.ld x0 r1_0) (View.ld x2 r1_1))⟩,
    ⟨r1_18, vals ![0, 1920] slices_S256x4096_o0_1920_S256x128 (proj (View.ld x0 r1_0) (View.ld x2 r1_1))⟩,
    ⟨r1_16, vals ![0, 1664] slices_S256x4096_o0_1664_S256x128 (proj (View.ld x0 r1_0) (View.ld x2 r1_1))⟩,
    ⟨r1_14, vals ![0, 1408] slices_S256x4096_o0_1408_S256x128 (proj (View.ld x0 r1_0) (View.ld x2 r1_1))⟩,
    ⟨r1_12, vals ![0, 1152] slices_S256x4096_o0_1152_S256x128 (proj (View.ld x0 r1_0) (View.ld x2 r1_1))⟩,
    ⟨r1_10, vals ![0, 896] slices_S256x4096_o0_896_S256x128 (proj (View.ld x0 r1_0) (View.ld x2 r1_1))⟩,
    ⟨r1_8, vals ![0, 640] slices_S256x4096_o0_640_S256x128 (proj (View.ld x0 r1_0) (View.ld x2 r1_1))⟩,
    ⟨r1_6, vals ![0, 384] slices_S256x4096_o0_384_S256x128 (proj (View.ld x0 r1_0) (View.ld x2 r1_1))⟩,
    ⟨r1_4, vals ![0, 128] slices_S256x4096_o0_128_S256x128 (proj (View.ld x0 r1_0) (View.ld x2 r1_1))⟩]

/-- Its stores tile the buffer (checked by evaluation), so they cover it. -/
theorem cover1_3 (p0 : Vec F S1x256x192 .f32) (p1 : Vec F S1x256x192 .f32) (p2 : Vec F S1x256x192 .f32) (p3 : Vec F S1x256x192 .f32) (p4 : Vec F S1x256x192 .f32) (p5 : Vec F S1x256x192 .f32) (p6 : Vec F S1x256x192 .f32) (p7 : Vec F S1x256x192 .f32) (p8 : Vec F S1x256x192 .f32) (p9 : Vec F S1x256x192 .f32) (p10 : Vec F S1x256x192 .f32) (p11 : Vec F S1x256x192 .f32) (p12 : Vec F S1x256x192 .f32) (p13 : Vec F S1x256x192 .f32) (p14 : Vec F S1x256x192 .f32) (p15 : Vec F S1x256x192 .f32) (y : S16x256x192.Idx) :
    ∃ pc ∈ ([⟨r1_33, p0⟩, ⟨r1_31, p1⟩, ⟨r1_29, p2⟩, ⟨r1_27, p3⟩, ⟨r1_25, p4⟩, ⟨r1_23, p5⟩, ⟨r1_21, p6⟩, ⟨r1_19, p7⟩, ⟨r1_17, p8⟩, ⟨r1_15, p9⟩, ⟨r1_13, p10⟩, ⟨r1_11, p11⟩, ⟨r1_9, p12⟩, ⟨r1_7, p13⟩, ⟨r1_5, p14⟩, ⟨r1_3, p15⟩] : List (View.Piece (Elt F) S16x256x192 .f32)), y ∈ pc.1.set :=
  View.cover_of_tiled [⟨r1_33, p0⟩, ⟨r1_31, p1⟩, ⟨r1_29, p2⟩, ⟨r1_27, p3⟩, ⟨r1_25, p4⟩, ⟨r1_23, p5⟩, ⟨r1_21, p6⟩, ⟨r1_19, p7⟩, ⟨r1_17, p8⟩, ⟨r1_15, p9⟩, ⟨r1_13, p10⟩, ⟨r1_11, p11⟩, ⟨r1_9, p12⟩, ⟨r1_7, p13⟩, ⟨r1_5, p14⟩, ⟨r1_3, p15⟩] S1x256x192.size (by rfl) y

/-- Its stores tile the buffer (checked by evaluation), so they cover it. -/
theorem cover1_4 (p0 : Vec F S1x256x128 .f32) (p1 : Vec F S1x256x128 .f32) (p2 : Vec F S1x256x128 .f32) (p3 : Vec F S1x256x128 .f32) (p4 : Vec F S1x256x128 .f32) (p5 : Vec F S1x256x128 .f32) (p6 : Vec F S1x256x128 .f32) (p7 : Vec F S1x256x128 .f32) (p8 : Vec F S1x256x128 .f32) (p9 : Vec F S1x256x128 .f32) (p10 : Vec F S1x256x128 .f32) (p11 : Vec F S1x256x128 .f32) (p12 : Vec F S1x256x128 .f32) (p13 : Vec F S1x256x128 .f32) (p14 : Vec F S1x256x128 .f32) (p15 : Vec F S1x256x128 .f32) (y : S16x256x128.Idx) :
    ∃ pc ∈ ([⟨r1_34, p0⟩, ⟨r1_32, p1⟩, ⟨r1_30, p2⟩, ⟨r1_28, p3⟩, ⟨r1_26, p4⟩, ⟨r1_24, p5⟩, ⟨r1_22, p6⟩, ⟨r1_20, p7⟩, ⟨r1_18, p8⟩, ⟨r1_16, p9⟩, ⟨r1_14, p10⟩, ⟨r1_12, p11⟩, ⟨r1_10, p12⟩, ⟨r1_8, p13⟩, ⟨r1_6, p14⟩, ⟨r1_4, p15⟩] : List (View.Piece (Elt F) S16x256x128 .f32)), y ∈ pc.1.set :=
  View.cover_of_tiled [⟨r1_34, p0⟩, ⟨r1_32, p1⟩, ⟨r1_30, p2⟩, ⟨r1_28, p3⟩, ⟨r1_26, p4⟩, ⟨r1_24, p5⟩, ⟨r1_22, p6⟩, ⟨r1_20, p7⟩, ⟨r1_18, p8⟩, ⟨r1_16, p9⟩, ⟨r1_14, p10⟩, ⟨r1_12, p11⟩, ⟨r1_10, p12⟩, ⟨r1_8, p13⟩, ⟨r1_6, p14⟩, ⟨r1_4, p15⟩] S1x256x128.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel (c : Dev nD) (E : Set ℕ) (arg0 : Memref sig .tc .vmem S256x512 .f32) (harg0 : arg0.IsWhole) (arg1 : Memref sig .tc .vmem S256x64 .f32) (harg1 : arg1.IsWhole) (arg2 : Memref sig .tc .vmem S512x4096 .f32) (harg2 : arg2.IsWhole) (arg3 : Memref sig .tc .vmem S16x256x192 .f32) (harg3 : arg3.IsWhole) (arg4 : Memref sig .tc .vmem S16x256x128 .f32) (harg4 : arg4.IsWhole)
    (x0 : Vec F S256x512 .f32) (x1 : Vec F S256x64 .f32) (x2 : Vec F S512x4096 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2) ∗ owns (c : Thread nD τ) arg4 fullShare (out1_4 x0 x1 x2)) -∗ K ⟨⟩))
      ⊢ wp frame (wpE (defs₀ (F := F)) Variants.none c none) E (cc1__kvb_body arg0 harg0 arg1 harg1 arg2 harg2 arg3 harg3 arg4 harg4) K := by
  simp only [cc1__kvb_body_eq_skeleton]; unfold cc1__kvb_body_skel
  simp only [k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover1_3 _ _ _ _ _ _ _ _ _ _ _ _ _ _ _ _)).trans ?_
    rfl
  iexists _; isplitr
  swap; · iexact H4
  ipureintro
  refine (View.read_writes_eq_canon _ _ _ (cover1_4 _ _ _ _ _ _ _ _ _ _ _ _ _ _ _ _)).trans ?_
  rfl

/-! ## The pipeline's proof data -/

/-- The proof data of the one pipeline on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat (c : Dev nD) : Dat τ (Elt F) Unit ℕ (UR sig nD τ) ℕ cfg1 c where
  A w := V W c (Pipeline.arrRef spec1 w)
  after w t := match w with
    | ⟨0, _⟩ => iblk W c 0 t
    | ⟨1, _⟩ => iblk W c 1 t
    | ⟨2, _⟩ => iblk W c 2 t
    | ⟨3, _⟩ => out1_3 (iblk W c 0 t) (iblk W c 1 t) (iblk W c 2 t)
    | ⟨4, _⟩ => out1_4 (iblk W c 0 t) (iblk W c 1 t) (iblk W c 2 t)
  Φ _ := Pipeline.ΦA spec1 c
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat W c).A w = V W c (Pipeline.arrRef spec1 w) := by
  dsimp only [dat]

/-- What the body leaves, window by window (the proof data's `match` reduced by `dsimp`, never `rfl`: Lib/Pipeline.lean `Dat`). -/
theorem after1_0 (c : Dev nD) (t : Fin cfg1.N) : (dat W c).after 0 t = iblk W c 0 t := by dsimp only [dat]
theorem after1_1 (c : Dev nD) (t : Fin cfg1.N) : (dat W c).after 1 t = iblk W c 1 t := by dsimp only [dat]
theorem after1_2 (c : Dev nD) (t : Fin cfg1.N) : (dat W c).after 2 t = iblk W c 2 t := by dsimp only [dat]
theorem after1_3 (c : Dev nD) (t : Fin cfg1.N) : (dat W c).after 3 t = out1_3 (iblk W c 0 t) (iblk W c 1 t) (iblk W c 2 t) := by dsimp only [dat]
theorem after1_4 (c : Dev nD) (t : Fin cfg1.N) : (dat W c).after 4 t = out1_4 (iblk W c 0 t) (iblk W c 1 t) (iblk W c 2 t) := by dsimp only [dat]

/-- Each input's current staging buffer holds its block at every point, fetched there or not (`before1_W_of`). -/
theorem before1_0 (c : Dev nD) (t : Fin cfg1.N) (d) : (dat W c).before 0 t d = iblk W c 0 t :=
  before1_0_of W (dat W c) (A_eq W c 0) (after1_0 W c) t d
theorem before1_1 (c : Dev nD) (t : Fin cfg1.N) (d) : (dat W c).before 1 t d = iblk W c 1 t :=
  before1_1_of W (dat W c) (A_eq W c 1) (after1_1 W c) t d
theorem before1_2 (c : Dev nD) (t : Fin cfg1.N) (d) : (dat W c).before 2 t d = iblk W c 2 t :=
  before1_2_of W (dat W c) (A_eq W c 2) (after1_2 W c) t d

/-! ## The body obligation, at a generic point -/

/-- What the body is called with at point `t` (Lib/Pipeline.lean `BodyObligation`'s precondition, the windows one by one), -/
def bodyPre (c : Dev nD) (t : Fin cfg1.N) : sProp 𝕄 :=
  iprop((dat W c).Φ t.castSucc ∗ (dat W c).owesAt () t.castSucc
    ∗ (∃ d, owns (c : Thread nD τ) (st1_0 t) fullShare ((dat W c).before 0 t d))
    ∗ (∃ d, owns (c : Thread nD τ) (st1_1 t) fullShare ((dat W c).before 1 t d))
    ∗ (∃ d, owns (c : Thread nD τ) (st1_2 t) fullShare ((dat W c).before 2 t d))
    ∗ (∃ d, owns (c : Thread nD τ) (st1_3 t) fullShare ((dat W c).before 3 t d))
    ∗ (∃ d, owns (c : Thread nD τ) (st1_4 t) fullShare ((dat W c).before 4 t d)))

/-- and what it returns. -/
def bodyPost (c : Dev nD) (t : Fin cfg1.N) : sProp 𝕄 :=
  iprop((dat W c).Φ t.succ ∗ (dat W c).owesAt () t.succ
    ∗ owns (c : Thread nD τ) (st1_0 t) fullShare ((dat W c).after 0 t)
    ∗ owns (c : Thread nD τ) (st1_1 t) fullShare ((dat W c).after 1 t)
    ∗ owns (c : Thread nD τ) (st1_2 t) fullShare ((dat W c).after 2 t)
    ∗ owns (c : Thread nD τ) (st1_3 t) fullShare ((dat W c).after 3 t)
    ∗ owns (c : Thread nD τ) (st1_4 t) fullShare ((dat W c).after 4 t))

/-- The body at any point: the inputs' memrefs hold their blocks (`before1_W`), so `sound_kernel` applies; the invariant and
    the core's `owes` pass through unread. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before1_0, before1_1, before1_2]
  rw [show (dat W c).Φ t.succ = (dat W c).Φ t.castSucc from rfl,
    show (dat W c).owesAt () t.succ = (dat W c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ (iblk W c 0 t) (iblk W c 1 t) (iblk W c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (F := F) W c) (defs₀ (F := F)) Variants.none () Set.univ := fun t => by
  rw [bigSep_W1, bigSep_W1, defs₀_row]
  exact triple_restated (sound_body W c t) rfl .rfl fun _ => .rfl

end Cert.KernelIdeal.Kvb

end
-- ==== Proof.KernelIdeal.Attn.lean ====
/-
The third call's body: what one grid point reads and what it leaves in the two output blocks, and the proof
that the body leaves exactly that.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what each core's buffers hold as the call begins
variable (W : Dev nD → Valuation τ sig (Elt F))

/-- The contents of one buffer of core `c` as the call begins. -/
abbrev V (c : Dev nD) (b : Ref sig .tc) : Buf (Elt F) ((c : Thread nD τ).loc b) := W c (Proc.devRef .tc b)

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V W c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V W c (Pipeline.arrRef spec2 0))
    (hafter : ∀ t, dat.after 0 t = iblk W c 0 t) (t : Fin cfg2.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V W c (Pipeline.arrRef spec2 1))
    (hafter : ∀ t, dat.after 1 t = iblk W c 1 t) (t : Fin cfg2.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V W c (Pipeline.arrRef spec2 2))
    (hafter : ∀ t, dat.after 2 t = iblk W c 2 t) (t : Fin cfg2.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V W c (Pipeline.arrRef spec2 3))
    (hafter : ∀ t, dat.after 3 t = iblk W c 3 t) (t : Fin cfg2.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r2_0 : Rect S256x16x192 := Rect.unit (s := S256x16x192) ![0, 0, 0] S256x1x192.size inb_S256x16x192_S256x1x192_0_0_0
abbrev r2_1 : Rect S16x256x192 := Rect.unit (s := S16x256x192) ![0, 0, 0] S1x256x192.size inb_S16x256x192_S1x256x192_0_0_0
abbrev r2_2 : Rect S16x256x128 := Rect.unit (s := S16x256x128) ![0, 0, 0] S1x256x128.size inb_S16x256x128_S1x256x128_0_0_0
abbrev r2_3 : Rect S256x2048 := Rect.unit (s := S256x2048) ![0, 0] S256x128.size inb_S256x2048_S256x128_0_0
abbrev r2_4 : Rect S256x16x192 := Rect.unit (s := S256x16x192) ![0, 1, 0] S256x1x192.size inb_S256x16x192_S256x1x192_0_1_0
abbrev r2_5 : Rect S16x256x192 := Rect.unit (s := S16x256x192) ![1, 0, 0] S1x256x192.size inb_S16x256x192_S1x256x192_1_0_0
abbrev r2_6 : Rect S16x256x128 := Rect.unit (s := S16x256x128) ![1, 0, 0] S1x256x128.size inb_S16x256x128_S1x256x128_1_0_0
abbrev r2_7 : Rect S256x2048 := Rect.unit (s := S256x2048) ![0, 128] S256x128.size inb_S256x2048_S256x128_0_128
abbrev r2_8 : Rect S256x16x192 := Rect.unit (s := S256x16x192) ![0, 2, 0] S256x1x192.size inb_S256x16x192_S256x1x192_0_2_0
abbrev r2_9 : Rect S16x256x192 := Rect.unit (s := S16x256x192) ![2, 0, 0] S1x256x192.size inb_S16x256x192_S1x256x192_2_0_0
abbrev r2_10 : Rect S16x256x128 := Rect.unit (s := S16x256x128) ![2, 0, 0] S1x256x128.size inb_S16x256x128_S1x256x128_2_0_0
abbrev r2_11 : Rect S256x2048 := Rect.unit (s := S256x2048) ![0, 256] S256x128.size inb_S256x2048_S256x128_0_256
abbrev r2_12 : Rect S256x16x192 := Rect.unit (s := S256x16x192) ![0, 3, 0] S256x1x192.size inb_S256x16x192_S256x1x192_0_3_0
abbrev r2_13 : Rect S16x256x192 := Rect.unit (s := S16x256x192) ![3, 0, 0] S1x256x192.size inb_S16x256x192_S1x256x192_3_0_0
abbrev r2_14 : Rect S16x256x128 := Rect.unit (s := S16x256x128) ![3, 0, 0] S1x256x128.size inb_S16x256x128_S1x256x128_3_0_0
abbrev r2_15 : Rect S256x2048 := Rect.unit (s := S256x2048) ![0, 384] S256x128.size inb_S256x2048_S256x128_0_384
abbrev r2_16 : Rect S256x16x192 := Rect.unit (s := S256x16x192) ![0, 4, 0] S256x1x192.size inb_S256x16x192_S256x1x192_0_4_0
abbrev r2_17 : Rect S16x256x192 := Rect.unit (s := S16x256x192) ![4, 0, 0] S1x256x192.size inb_S16x256x192_S1x256x192_4_0_0
abbrev r2_18 : Rect S16x256x128 := Rect.unit (s := S16x256x128) ![4, 0, 0] S1x256x128.size inb_S16x256x128_S1x256x128_4_0_0
abbrev r2_19 : Rect S256x2048 := Rect.unit (s := S256x2048) ![0, 512] S256x128.size inb_S256x2048_S256x128_0_512
abbrev r2_20 : Rect S256x16x192 := Rect.unit (s := S256x16x192) ![0, 5, 0] S256x1x192.size inb_S256x16x192_S256x1x192_0_5_0
abbrev r2_21 : Rect S16x256x192 := Rect.unit (s := S16x256x192) ![5, 0, 0] S1x256x192.size inb_S16x256x192_S1x256x192_5_0_0
abbrev r2_22 : Rect S16x256x128 := Rect.unit (s := S16x256x128) ![5, 0, 0] S1x256x128.size inb_S16x256x128_S1x256x128_5_0_0
abbrev r2_23 : Rect S256x2048 := Rect.unit (s := S256x2048) ![0, 640] S256x128.size inb_S256x2048_S256x128_0_640
abbrev r2_24 : Rect S256x16x192 := Rect.unit (s := S256x16x192) ![0, 6, 0] S256x1x192.size inb_S256x16x192_S256x1x192_0_6_0
abbrev r2_25 : Rect S16x256x192 := Rect.unit (s := S16x256x192) ![6, 0, 0] S1x256x192.size inb_S16x256x192_S1x256x192_6_0_0
abbrev r2_26 : Rect S16x256x128 := Rect.unit (s := S16x256x128) ![6, 0, 0] S1x256x128.size inb_S16x256x128_S1x256x128_6_0_0
abbrev r2_27 : Rect S256x2048 := Rect.unit (s := S256x2048) ![0, 768] S256x128.size inb_S256x2048_S256x128_0_768
abbrev r2_28 : Rect S256x16x192 := Rect.unit (s := S256x16x192) ![0, 7, 0] S256x1x192.size inb_S256x16x192_S256x1x192_0_7_0
abbrev r2_29 : Rect S16x256x192 := Rect.unit (s := S16x256x192) ![7, 0, 0] S1x256x192.size inb_S16x256x192_S1x256x192_7_0_0
abbrev r2_30 : Rect S16x256x128 := Rect.unit (s := S16x256x128) ![7, 0, 0] S1x256x128.size inb_S16x256x128_S1x256x128_7_0_0
abbrev r2_31 : Rect S256x2048 := Rect.unit (s := S256x2048) ![0, 896] S256x128.size inb_S256x2048_S256x128_0_896
abbrev r2_32 : Rect S256x16x192 := Rect.unit (s := S256x16x192) ![0, 8, 0] S256x1x192.size inb_S256x16x192_S256x1x192_0_8_0
abbrev r2_33 : Rect S16x256x192 := Rect.unit (s := S16x256x192) ![8, 0, 0] S1x256x192.size inb_S16x256x192_S1x256x192_8_0_0
abbrev r2_34 : Rect S16x256x128 := Rect.unit (s := S16x256x128) ![8, 0, 0] S1x256x128.size inb_S16x256x128_S1x256x128_8_0_0
abbrev r2_35 : Rect S256x2048 := Rect.unit (s := S256x2048) ![0, 1024] S256x128.size inb_S256x2048_S256x128_0_1024
abbrev r2_36 : Rect S256x16x192 := Rect.unit (s := S256x16x192) ![0, 9, 0] S256x1x192.size inb_S256x16x192_S256x1x192_0_9_0
abbrev r2_37 : Rect S16x256x192 := Rect.unit (s := S16x256x192) ![9, 0, 0] S1x256x192.size inb_S16x256x192_S1x256x192_9_0_0
abbrev r2_38 : Rect S16x256x128 := Rect.unit (s := S16x256x128) ![9, 0, 0] S1x256x128.size inb_S16x256x128_S1x256x128_9_0_0
abbrev r2_39 : Rect S256x2048 := Rect.unit (s := S256x2048) ![0, 1152] S256x128.size inb_S256x2048_S256x128_0_1152
abbrev r2_40 : Rect S256x16x192 := Rect.unit (s := S256x16x192) ![0, 10, 0] S256x1x192.size inb_S256x16x192_S256x1x192_0_10_0
abbrev r2_41 : Rect S16x256x192 := Rect.unit (s := S16x256x192) ![10, 0, 0] S1x256x192.size inb_S16x256x192_S1x256x192_10_0_0
abbrev r2_42 : Rect S16x256x128 := Rect.unit (s := S16x256x128) ![10, 0, 0] S1x256x128.size inb_S16x256x128_S1x256x128_10_0_0
abbrev r2_43 : Rect S256x2048 := Rect.unit (s := S256x2048) ![0, 1280] S256x128.size inb_S256x2048_S256x128_0_1280
abbrev r2_44 : Rect S256x16x192 := Rect.unit (s := S256x16x192) ![0, 11, 0] S256x1x192.size inb_S256x16x192_S256x1x192_0_11_0
abbrev r2_45 : Rect S16x256x192 := Rect.unit (s := S16x256x192) ![11, 0, 0] S1x256x192.size inb_S16x256x192_S1x256x192_11_0_0
abbrev r2_46 : Rect S16x256x128 := Rect.unit (s := S16x256x128) ![11, 0, 0] S1x256x128.size inb_S16x256x128_S1x256x128_11_0_0
abbrev r2_47 : Rect S256x2048 := Rect.unit (s := S256x2048) ![0, 1408] S256x128.size inb_S256x2048_S256x128_0_1408
abbrev r2_48 : Rect S256x16x192 := Rect.unit (s := S256x16x192) ![0, 12, 0] S256x1x192.size inb_S256x16x192_S256x1x192_0_12_0
abbrev r2_49 : Rect S16x256x192 := Rect.unit (s := S16x256x192) ![12, 0, 0] S1x256x192.size inb_S16x256x192_S1x256x192_12_0_0
abbrev r2_50 : Rect S16x256x128 := Rect.unit (s := S16x256x128) ![12, 0, 0] S1x256x128.size inb_S16x256x128_S1x256x128_12_0_0
abbrev r2_51 : Rect S256x2048 := Rect.unit (s := S256x2048) ![0, 1536] S256x128.size inb_S256x2048_S256x128_0_1536
abbrev r2_52 : Rect S256x16x192 := Rect.unit (s := S256x16x192) ![0, 13, 0] S256x1x192.size inb_S256x16x192_S256x1x192_0_13_0
abbrev r2_53 : Rect S16x256x192 := Rect.unit (s := S16x256x192) ![13, 0, 0] S1x256x192.size inb_S16x256x192_S1x256x192_13_0_0
abbrev r2_54 : Rect S16x256x128 := Rect.unit (s := S16x256x128) ![13, 0, 0] S1x256x128.size inb_S16x256x128_S1x256x128_13_0_0
abbrev r2_55 : Rect S256x2048 := Rect.unit (s := S256x2048) ![0, 1664] S256x128.size inb_S256x2048_S256x128_0_1664
abbrev r2_56 : Rect S256x16x192 := Rect.unit (s := S256x16x192) ![0, 14, 0] S256x1x192.size inb_S256x16x192_S256x1x192_0_14_0
abbrev r2_57 : Rect S16x256x192 := Rect.unit (s := S16x256x192) ![14, 0, 0] S1x256x192.size inb_S16x256x192_S1x256x192_14_0_0
abbrev r2_58 : Rect S16x256x128 := Rect.unit (s := S16x256x128) ![14, 0, 0] S1x256x128.size inb_S16x256x128_S1x256x128_14_0_0
abbrev r2_59 : Rect S256x2048 := Rect.unit (s := S256x2048) ![0, 1792] S256x128.size inb_S256x2048_S256x128_0_1792
abbrev r2_60 : Rect S256x16x192 := Rect.unit (s := S256x16x192) ![0, 15, 0] S256x1x192.size inb_S256x16x192_S256x1x192_0_15_0
abbrev r2_61 : Rect S16x256x192 := Rect.unit (s := S16x256x192) ![15, 0, 0] S1x256x192.size inb_S16x256x192_S1x256x192_15_0_0
abbrev r2_62 : Rect S16x256x128 := Rect.unit (s := S16x256x128) ![15, 0, 0] S1x256x128.size inb_S16x256x128_S1x256x128_15_0_0
abbrev r2_63 : Rect S256x2048 := Rect.unit (s := S256x2048) ![0, 1920] S256x128.size inb_S256x2048_S256x128_0_1920
abbrev r2_64 : Rect S256x64 := Rect.unit (s := S256x64) ![0, 0] S256x64.size inb_S256x64_S256x64_0_0
abbrev r2_65 : Rect S256x16 := Rect.unit (s := S256x16) ![0, 0] S256x16.size inb_S256x16_S256x16_0_0

/-! ## What the body leaves in each output window's buffer -/

/-- One head's attention weights: scores of the head's queries against its keys, scaled, masked, normalised
    along the keys, and cleared for the queries that see no key. -/
def probs (i : grid2.Coords) (q : Vec F S256x1x192 .f32) (k : Vec F S1x256x192 .f32) : FVec F S256x256 .f32 :=
  k2_pay5 i q k

/-- One head's output: its weights against its values. -/
def headO (i : grid2.Coords) (q : Vec F S256x1x192 .f32) (k : Vec F S1x256x192 .f32) (v : Vec F S1x256x128 .f32) : FVec F S256x128 .f32 :=
  k2_pay7 (probs i q k) (k2_pay6 v) (constant S256x128 .f32 0x00000000#32)

/-- The heads' weights summed over the heads, pair by pair. -/
def psum (i : grid2.Coords) (x0 : Vec F S256x16x192 .f32) (x1 : Vec F S16x256x192 .f32) : FVec F S256x256 .f32 :=
  have p0 : FVec F S256x256 .f32 := probs i (View.ld x0 r2_0) (View.ld x1 r2_1)
  have p1 : FVec F S256x256 .f32 := probs i (View.ld x0 r2_4) (View.ld x1 r2_5)
  have p2 : FVec F S256x256 .f32 := probs i (View.ld x0 r2_8) (View.ld x1 r2_9)
  have p3 : FVec F S256x256 .f32 := probs i (View.ld x0 r2_12) (View.ld x1 r2_13)
  have p4 : FVec F S256x256 .f32 := probs i (View.ld x0 r2_16) (View.ld x1 r2_17)
  have p5 : FVec F S256x256 .f32 := probs i (View.ld x0 r2_20) (View.ld x1 r2_21)
  have p6 : FVec F S256x256 .f32 := probs i (View.ld x0 r2_24) (View.ld x1 r2_25)
  have p7 : FVec F S256x256 .f32 := probs i (View.ld x0 r2_28) (View.ld x1 r2_29)
  have p8 : FVec F S256x256 .f32 := probs i (View.ld x0 r2_32) (View.ld x1 r2_33)
  have p9 : FVec F S256x256 .f32 := probs i (View.ld x0 r2_36) (View.ld x1 r2_37)
  have p10 : FVec F S256x256 .f32 := probs i (View.ld x0 r2_40) (View.ld x1 r2_41)
  have p11 : FVec F S256x256 .f32 := probs i (View.ld x0 r2_44) (View.ld x1 r2_45)
  have p12 : FVec F S256x256 .f32 := probs i (View.ld x0 r2_48) (View.ld x1 r2_49)
  have p13 : FVec F S256x256 .f32 := probs i (View.ld x0 r2_52) (View.ld x1 r2_53)
  have p14 : FVec F S256x256 .f32 := probs i (View.ld x0 r2_56) (View.ld x1 r2_57)
  have p15 : FVec F S256x256 .f32 := probs i (View.ld x0 r2_60) (View.ld x1 r2_61)
  addf (addf (addf (addf p0 p1) (addf p2 p3)) (addf (addf p4 p5) (addf p6 p7)))
    (addf (addf (addf p8 p9) (addf p10 p11)) (addf (addf p12 p13) (addf p14 p15)))

/-- A row's position of its largest entry, the least such position. -/
def pick (s : FVec F S256x64 .f32) : IVec S256 32 :=
  have v529 : FVec F S256 .f32 := multiReduction .maximumf [1] S256 s 0xFF800000#32 reduces_S256x64_S256 (.inl rfl) rfl
  have v530 : FVec F S256x1 .f32 := shapeCast S256x1 v529 shapeCasts_S256_S256x1
  have v531 : FVec F S256x64 .f32 := broadcastTo S256x64 v530 broadcasts_S256x1_S256x64
  have v532 : IVec S256x64 1 := cmpf .oeq s v531
  have v533 : IVec S256x64 32 := broadcast S256x64 64#32
  have v534 : IVec S256x64 32 := select v532 (iota .tc S256x64 32 [1] iota_S256x64_d1_w32) v533
  multiReductionI .minsi [1] S256 v534 2147483647#32 reduces_S256x64_S256 rfl

/-- The scores with each row's entry at `p` struck out. -/
def drop (s : FVec F S256x64 .f32) (p : IVec S256 32) : FVec F S256x64 .f32 :=
  have v542 : IVec S256x1 32 := shapeCast S256x1 p shapeCasts_S256_S256x1
  have v543 : IVec S256x64 32 := broadcastTo S256x64 v542 broadcasts_S256x1_S256x64
  have v544 : IVec S256x64 1 := cmpi .eq (iota .tc S256x64 32 [1] iota_S256x64_d1_w32) v543
  have v545 : FVec F S256x64 .f32 := broadcast S256x64 (Scalar.ofBits .f32 0xFF800000#32)
  select v544 v545 s

/-- The table of positions with its column `n` set to `p`. -/
def put (n : BitVec 32) (p : IVec S256 32) (a : IVec S256x16 32) : IVec S256x16 32 :=
  have v536 : IVec S256x16 32 := broadcast S256x16 n
  have v537 : IVec S256x16 1 := cmpi .eq (iota .tc S256x16 32 [1] iota_S256x16_d1_w32) v536
  have v538 : IVec S256x1 32 := shapeCast S256x1 p shapeCasts_S256_S256x1
  have v539 : IVec S256x1 32 := shapeCast S256x1 v538 shapeCasts_S256x1_S256x1
  have v540 : IVec S256x16 32 := broadcastTo S256x16 v539 broadcasts_S256x1_S256x16
  select v537 v540 a

/-- The scores after `n` entries of each row have been struck out. -/
def left (s : FVec F S256x64 .f32) : ℕ → FVec F S256x64 .f32
  | 0 => s
  | n + 1 => drop (left s n) (pick (left s n))

/-- The table of positions after `n` columns have been filled. -/
def table (s : FVec F S256x64 .f32) : ℕ → IVec S256x16 32
  | 0 => broadcast S256x16 0#32
  | n + 1 => put (BitVec.ofNat 32 n) (pick (left s n)) (table s n)

/-- The scores of the blocks before any is chosen: the summed weights against the overlaps, the blocks ahead of
    the query set low, the forced blocks set high. -/
def score (i : grid2.Coords) (p : FVec F S256x256 .f32) (x3 : Vec F S256x64 .f32) : FVec F S256x64 .f32 :=
  have v0 : BitVec 32 := Scalar.muli (BitVec.ofNat 32 (i 0).val) 256#32
  k2_pay61 (matmul dot_S256x256_S256x64_S256x64_1_0_0_1_n_n none p x3 (constant S256x64 .f32 0x00000000#32))
    (k2_pay58 v0) 64#32 (k2_pay59 v0) (k2_pay60 v0) (Scalar.extui (Scalar.cmpi .sgt 64#32 0#32)) (Scalar.cmpi .slt 64#32 0#32)

/-- What the call writes to its first output: the heads' outputs side by side. -/
def out2_4 (i : grid2.Coords) (x0 : Vec F S256x16x192 .f32) (x1 : Vec F S16x256x192 .f32) (x2 : Vec F S16x256x128 .f32) (x3 : Vec F S256x64 .f32) : Vec F S256x2048 .f32 :=
  View.canon [⟨r2_63, headO i (View.ld x0 r2_60) (View.ld x1 r2_61) (View.ld x2 r2_62)⟩,
    ⟨r2_59, headO i (View.ld x0 r2_56) (View.ld x1 r2_57) (View.ld x2 r2_58)⟩,
    ⟨r2_55, headO i (View.ld x0 r2_52) (View.ld x1 r2_53) (View.ld x2 r2_54)⟩,
    ⟨r2_51, headO i (View.ld x0 r2_48) (View.ld x1 r2_49) (View.ld x2 r2_50)⟩,
    ⟨r2_47, headO i (View.ld x0 r2_44) (View.ld x1 r2_45) (View.ld x2 r2_46)⟩,
    ⟨r2_43, headO i (View.ld x0 r2_40) (View.ld x1 r2_41) (View.ld x2 r2_42)⟩,
    ⟨r2_39, headO i (View.ld x0 r2_36) (View.ld x1 r2_37) (View.ld x2 r2_38)⟩,
    ⟨r2_35, headO i (View.ld x0 r2_32) (View.ld x1 r2_33) (View.ld x2 r2_34)⟩,
    ⟨r2_31, headO i (View.ld x0 r2_28) (View.ld x1 r2_29) (View.ld x2 r2_30)⟩,
    ⟨r2_27, headO i (View.ld x0 r2_24) (View.ld x1 r2_25) (View.ld x2 r2_26)⟩,
    ⟨r2_23, headO i (View.ld x0 r2_20) (View.ld x1 r2_21) (View.ld x2 r2_22)⟩,
    ⟨r2_19, headO i (View.ld x0 r2_16) (View.ld x1 r2_17) (View.ld x2 r2_18)⟩,
    ⟨r2_15, headO i (View.ld x0 r2_12) (View.ld x1 r2_13) (View.ld x2 r2_14)⟩,
    ⟨r2_11, headO i (View.ld x0 r2_8) (View.ld x1 r2_9) (View.ld x2 r2_10)⟩,
    ⟨r2_7, headO i (View.ld x0 r2_4) (View.ld x1 r2_5) (View.ld x2 r2_6)⟩,
    ⟨r2_3, headO i (View.ld x0 r2_0) (View.ld x1 r2_1) (View.ld x2 r2_2)⟩]

/-- What the call writes to its second output: the sixteen positions. -/
def out2_5 (i : grid2.Coords) (x0 : Vec F S256x16x192 .f32) (x1 : Vec F S16x256x192 .f32) (x2 : Vec F S16x256x128 .f32) (x3 : Vec F S256x64 .f32) : Vec F S256x16 .i32 :=
  View.canon [⟨r2_65, table (score i (psum i x0 x1) (View.ld x3 r2_64)) 16⟩]

/-- Its stores tile the buffer (checked by evaluation), so they cover it. -/
theorem cover2_4 (p0 : Vec F S256x128 .f32) (p1 : Vec F S256x128 .f32) (p2 : Vec F S256x128 .f32) (p3 : Vec F S256x128 .f32) (p4 : Vec F S256x128 .f32) (p5 : Vec F S256x128 .f32) (p6 : Vec F S256x128 .f32) (p7 : Vec F S256x128 .f32) (p8 : Vec F S256x128 .f32) (p9 : Vec F S256x128 .f32) (p10 : Vec F S256x128 .f32) (p11 : Vec F S256x128 .f32) (p12 : Vec F S256x128 .f32) (p13 : Vec F S256x128 .f32) (p14 : Vec F S256x128 .f32) (p15 : Vec F S256x128 .f32) (y : S256x2048.Idx) :
    ∃ pc ∈ ([⟨r2_63, p0⟩, ⟨r2_59, p1⟩, ⟨r2_55, p2⟩, ⟨r2_51, p3⟩, ⟨r2_47, p4⟩, ⟨r2_43, p5⟩, ⟨r2_39, p6⟩, ⟨r2_35, p7⟩, ⟨r2_31, p8⟩, ⟨r2_27, p9⟩, ⟨r2_23, p10⟩, ⟨r2_19, p11⟩, ⟨r2_15, p12⟩, ⟨r2_11, p13⟩, ⟨r2_7, p14⟩, ⟨r2_3, p15⟩] : List (View.Piece (Elt F) S256x2048 .f32)), y ∈ pc.1.set :=
  View.cover_of_tiled [⟨r2_63, p0⟩, ⟨r2_59, p1⟩, ⟨r2_55, p2⟩, ⟨r2_51, p3⟩, ⟨r2_47, p4⟩, ⟨r2_43, p5⟩, ⟨r2_39, p6⟩, ⟨r2_35, p7⟩, ⟨r2_31, p8⟩, ⟨r2_27, p9⟩, ⟨r2_23, p10⟩, ⟨r2_19, p11⟩, ⟨r2_15, p12⟩, ⟨r2_11, p13⟩, ⟨r2_7, p14⟩, ⟨r2_3, p15⟩] S256x128.size (by rfl) y

/-- Its stores tile the buffer (checked by evaluation), so they cover it. -/
theorem cover2_5 (p0 : Vec F S256x16 .i32) (y : S256x16.Idx) :
    ∃ pc ∈ ([⟨r2_65, p0⟩] : List (View.Piece (Elt F) S256x16 .i32)), y ∈ pc.1.set :=
  View.cover_of_tiled [⟨r2_65, p0⟩] S256x16.size (by rfl) y

/-! ## The body's triple -/

set_option maxHeartbeats 10457750 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel (c : Dev nD) (E : Set ℕ) (i : grid2.Coords) (arg1 : Memref sig .tc .vmem S256x16x192 .f32) (harg1 : arg1.IsWhole) (arg2 : Memref sig .tc .vmem S16x256x192 .f32) (harg2 : arg2.IsWhole) (arg3 : Memref sig .tc .vmem S16x256x128 .f32) (harg3 : arg3.IsWhole) (arg4 : Memref sig .tc .vmem S256x64 .f32) (harg4 : arg4.IsWhole) (arg5 : Memref sig .tc .vmem S256x2048 .f32) (harg5 : arg5.IsWhole) (arg6 : Memref sig .tc .vmem S256x16 .i32) (harg6 : arg6.IsWhole)
    (x0 : Vec F S256x16x192 .f32) (x1 : Vec F S16x256x192 .f32) (x2 : Vec F S16x256x128 .f32) (x3 : Vec F S256x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 i x0 x1 x2 x3) ∗ owns (c : Thread nD τ) arg6 fullShare (out2_5 i x0 x1 x2 x3)) -∗ K ⟨⟩))
      ⊢ wp frame (wpE (defs₀ (F := F)) Variants.none c none) E (cc2__attn_body i arg1 harg1 arg2 harg2 arg3 harg3 arg4 harg4 arg5 harg5 arg6 harg6) K := by
  simp only [cc2__attn_body_eq_skeleton]; unfold cc2__attn_body_skel
  simp only [k2_part20_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover2_4 _ _ _ _ _ _ _ _ _ _ _ _ _ _ _ _)).trans ?_
    rfl
  iexists _; isplitr
  swap; · iexact H5
  ipureintro
  refine (View.read_writes_eq_canon _ _ _ (cover2_5 _)).trans ?_
  rfl

/-! ## The pipeline's proof data -/

/-- The proof data of the one pipeline on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat (c : Dev nD) : Dat τ (Elt F) Unit ℕ (UR sig nD τ) ℕ cfg2 c where
  A w := V W c (Pipeline.arrRef spec2 w)
  after w t := match w with
    | ⟨0, _⟩ => iblk W c 0 t
    | ⟨1, _⟩ => iblk W c 1 t
    | ⟨2, _⟩ => iblk W c 2 t
    | ⟨3, _⟩ => iblk W c 3 t
    | ⟨4, _⟩ => out2_4 (grid2.coords t) (iblk W c 0 t) (iblk W c 1 t) (iblk W c 2 t) (iblk W c 3 t)
    | ⟨5, _⟩ => out2_5 (grid2.coords t) (iblk W c 0 t) (iblk W c 1 t) (iblk W c 2 t) (iblk W c 3 t)
  Φ _ := Pipeline.ΦA spec2 c
  q _ := fullShare
  owed _ := 0

/-- The proof data's arrays are the region-entry contents: the proof data's definition projected (`dsimp`), so that
    `V` — a fold over @main's host prefix, long for some programs — is never unfolded to check it. -/
theorem A_eq (c : Dev nD) (w : Fin cfg2.W) : (dat W c).A w = V W c (Pipeline.arrRef spec2 w) := by
  dsimp only [dat]

/-- What the body leaves, window by window (the proof data's `match` reduced by `dsimp`, never `rfl`: Lib/Pipeline.lean `Dat`). -/
theorem after2_0 (c : Dev nD) (t : Fin cfg2.N) : (dat W c).after 0 t = iblk W c 0 t := by dsimp only [dat]
theorem after2_1 (c : Dev nD) (t : Fin cfg2.N) : (dat W c).after 1 t = iblk W c 1 t := by dsimp only [dat]
theorem after2_2 (c : Dev nD) (t : Fin cfg2.N) : (dat W c).after 2 t = iblk W c 2 t := by dsimp only [dat]
theorem after2_3 (c : Dev nD) (t : Fin cfg2.N) : (dat W c).after 3 t = iblk W c 3 t := by dsimp only [dat]
theorem after2_4 (c : Dev nD) (t : Fin cfg2.N) : (dat W c).after 4 t = out2_4 (grid2.coords t) (iblk W c 0 t) (iblk W c 1 t) (iblk W c 2 t) (iblk W c 3 t) := by dsimp only [dat]
theorem after2_5 (c : Dev nD) (t : Fin cfg2.N) : (dat W c).after 5 t = out2_5 (grid2.coords t) (iblk W c 0 t) (iblk W c 1 t) (iblk W c 2 t) (iblk W c 3 t) := by dsimp only [dat]

/-- Each input's current staging buffer holds its block at every point, fetched there or not (`before2_W_of`). -/
theorem before2_0 (c : Dev nD) (t : Fin cfg2.N) (d) : (dat W c).before 0 t d = iblk W c 0 t :=
  before2_0_of W (dat W c) (A_eq W c 0) (after2_0 W c) t d
theorem before2_1 (c : Dev nD) (t : Fin cfg2.N) (d) : (dat W c).before 1 t d = iblk W c 1 t :=
  before2_1_of W (dat W c) (A_eq W c 1) (after2_1 W c) t d
theorem before2_2 (c : Dev nD) (t : Fin cfg2.N) (d) : (dat W c).before 2 t d = iblk W c 2 t :=
  before2_2_of W (dat W c) (A_eq W c 2) (after2_2 W c) t d
theorem before2_3 (c : Dev nD) (t : Fin cfg2.N) (d) : (dat W c).before 3 t d = iblk W c 3 t :=
  before2_3_of W (dat W c) (A_eq W c 3) (after2_3 W c) t d

/-! ## The body obligation, at a generic point -/

/-- What the body is called with at point `t` (Lib/Pipeline.lean `BodyObligation`'s precondition, the windows one by one), -/
def bodyPre (c : Dev nD) (t : Fin cfg2.N) : sProp 𝕄 :=
  iprop((dat W c).Φ t.castSucc ∗ (dat W c).owesAt () t.castSucc
    ∗ (∃ d, owns (c : Thread nD τ) (st2_0 t) fullShare ((dat W c).before 0 t d))
    ∗ (∃ d, owns (c : Thread nD τ) (st2_1 t) fullShare ((dat W c).before 1 t d))
    ∗ (∃ d, owns (c : Thread nD τ) (st2_2 t) fullShare ((dat W c).before 2 t d))
    ∗ (∃ d, owns (c : Thread nD τ) (st2_3 t) fullShare ((dat W c).before 3 t d))
    ∗ (∃ d, owns (c : Thread nD τ) (st2_4 t) fullShare ((dat W c).before 4 t d))
    ∗ (∃ d, owns (c : Thread nD τ) (st2_5 t) fullShare ((dat W c).before 5 t d)))

/-- and what it returns. -/
def bodyPost (c : Dev nD) (t : Fin cfg2.N) : sProp 𝕄 :=
  iprop((dat W c).Φ t.succ ∗ (dat W c).owesAt () t.succ
    ∗ owns (c : Thread nD τ) (st2_0 t) fullShare ((dat W c).after 0 t)
    ∗ owns (c : Thread nD τ) (st2_1 t) fullShare ((dat W c).after 1 t)
    ∗ owns (c : Thread nD τ) (st2_2 t) fullShare ((dat W c).after 2 t)
    ∗ owns (c : Thread nD τ) (st2_3 t) fullShare ((dat W c).after 3 t)
    ∗ owns (c : Thread nD τ) (st2_4 t) fullShare ((dat W c).after 4 t)
    ∗ owns (c : Thread nD τ) (st2_5 t) fullShare ((dat W c).after 5 t))

/-- The body at any point: the inputs' memrefs hold their blocks (`before2_W`), so `sound_kernel` applies; the invariant and
    the core's `owes` pass through unread. -/
theorem sound_body (c : Dev nD) (t : Fin cfg2.N) :
    bodyPre W c t ⊢ wp frame (wpE (defs₀ (F := F)) Variants.none c none) Set.univ (bodyAt2 t) (fun _ => bodyPost W c t) := by
  unfold bodyPre bodyPost bodyAt2
  simp only [before2_0, before2_1, before2_2, before2_3]
  rw [show (dat W c).Φ t.succ = (dat W c).Φ t.castSucc from rfl,
    show (dat W c).owesAt () t.succ = (dat W c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid2.coords t) _ _ _ _ _ _ _ _ _ _ _ _ (iblk W c 0 t) (iblk W c 1 t) (iblk W c 2 t) (iblk W c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation (c : Dev nD) : BodyObligation (dat (F := F) W c) (defs₀ (F := F)) Variants.none () Set.univ := fun t => by
  rw [bigSep_W2, bigSep_W2, defs₀_row]
  exact triple_restated (sound_body W c t) rfl .rfl fun _ => .rfl

end Cert.KernelIdeal.Attn

end
-- ==== Proof.KernelIdeal.Run.lean ====
/-
The whole run: @main as its host operations before, the three calls one after the other, and the host
operation after, each starting from what the one before it left.
-/
module

public import proofs.«01_k».proof.Proof.KernelIdeal.Compress
public import proofs.«01_k».proof.Proof.KernelIdeal.Kvb
public import proofs.«01_k».proof.Proof.KernelIdeal.Attn
public import proofs.«01_k».proof.Proof.Gen.KernelIdeal.Regions
public import Idealize.ShloMosaic.Lib.Pipeline.RegionArraysS

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg HostSeg RegionSeg Seg)

variable {F : FTy → Type} [FloatOps F] [Named F]

local notation "𝕄" => MT nD τ sig Unit (Elt F) ℕ (UR sig nD τ) ℕ

variable (m : (ℓ : Loc nD τ sig) → Buf (Elt F) ℓ)

/-! ## What the buffers hold between the items of @main -/

/-- At the start. -/
def W0 (c : Dev nD) : Valuation τ sig (Elt F) := StableHlo.launchContents m c
/-- After the host operations that lay out the windows. -/
def W1 (c : Dev nD) : Valuation τ sig (Elt F) := StableHlo.after hostOps0 (W0 m c)
/-- After the call that compresses the windows. -/
def W2 (c : Dev nD) : Valuation τ sig (Elt F) := Pipeline.afterRegion (Compress.dat (W1 m) c) (W1 m c)
/-- After the call that expands the compressed rows into each head's keys and values. -/
def W3 (c : Dev nD) : Valuation τ sig (Elt F) := Pipeline.afterRegion (Kvb.dat (W2 m) c) (W2 m c)
/-- After the attention call. -/
def W4 (c : Dev nD) : Valuation τ sig (Elt F) := Pipeline.afterRegion (Attn.dat (W3 m) c) (W3 m c)
/-- At the end. -/
def W5 (c : Dev nD) : Valuation τ sig (Elt F) := StableHlo.after hostOps3 (W4 m c)

/-- The calls' proof data, each from what the buffers hold as it begins. -/
def dats (p : Fin 3) (c : Dev nD) : Dat τ (Elt F) Unit ℕ (UR sig nD τ) ℕ (cfgs p) c := match p with
  | ⟨0, _⟩ => Compress.dat (W1 m) c
  | ⟨1, _⟩ => Kvb.dat (W2 m) c
  | ⟨2, _⟩ => Attn.dat (W3 m) c
  | ⟨_ + 3, h⟩ => absurd h (Nat.not_lt.2 (Nat.le_add_left _ _))

/-! ## The items as segments -/

/-- Every TensorCore cell has the one index. -/
def L : GSem nD τ sig → Finset Unit := fun g => if g.1.2 = .tc then {()} else ∅
/-- One level. -/
def lv : GSem nD τ sig → Unit → ℕ := fun _ _ => 0

theorem cut (p : Fin 3) : Pipeline.LevelCut (pcfgs (F := F)) adm () L lv p (fun _ => 0) (fun _ => 0) where
  hι _ _ _ := by simp [L]
  hιb _ _ _ := le_refl _
  hD _ _ _ h := absurd h (Nat.lt_irrefl 0)

/-- What rides beside the buffers: a core owing nothing, and its generator register at some state. -/
def E (c : Dev nD) : sProp 𝕄 :=
  iprop((∃ Wd, owes (c : Thread nD τ) (0 : CellTallies nD τ sig Unit) Wd) ∗ (∃ r, prngReg c r) ∗ emp)

theorem arrs (p : Fin 3) : Pipeline.arrRefs (τ := τ) (pcfgs (F := F) p).spec ⊆ Pipeline.ucRefs τ sig := by
  match p with
  | ⟨0, _⟩ => exact Pipeline.arrRefs_sub_ucRefs spec0 (by decide)
  | ⟨1, _⟩ => exact Pipeline.arrRefs_sub_ucRefs spec1 (by decide)
  | ⟨2, _⟩ => exact Pipeline.arrRefs_sub_ucRefs spec2 (by decide)
  | ⟨_ + 3, h⟩ => exact absurd h (Nat.not_lt.2 (Nat.le_add_left _ _))

/-- The host operations before the calls. -/
def pre : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) E

/-- The host operation after the calls. -/
def post : HostSeg (Ix := Unit) (Name := ℕ) (U := UR sig nD τ) (Lvl := ℕ) (pcfgs (F := F)) defs₀ Variants.none L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W4 m) E

set_option backward.isDefEq.respectTransparency.types false in
/-- The first call. -/
def reg0 : RegionSeg (pcfgs (F := F)) adm (dats m) () defs₀ Variants.none L lv 0 :=
  RegionSeg.ofHeldIn (pcfgs (F := F)) adm (dats m) () defs₀ Variants.none L lv 0 (fun _ => 0) (Pipeline.ucRefs τ sig)
    (fun c => iprop(∃ r, prngReg c r)) (fun c => iprop(∃ r, prngReg c r)) launch0.toP rfl
    (fun c => (Compress.body_obligation (W1 m) c).loose) (fun c t => rfl) (fun c => rfl)
    (fun c => (Compress.dat (W1 m) c).share_full fun _ => rfl)
    (fun c => Compress.hin (W1 m) c) (fun c => Compress.hout (W1 m) c) (fun _ => 0) (cut 0) (fun _ => iprop(emp)) (W1 m)
    (fun c w => Compress.A_eq (W1 m) c w)

set_option backward.isDefEq.respectTransparency.types false in
/-- The second call. -/
def reg1 : RegionSeg (pcfgs (F := F)) adm (dats m) () defs₀ Variants.none L lv 1 :=
  RegionSeg.ofHeldIn (pcfgs (F := F)) adm (dats m) () defs₀ Variants.none L lv 1 (fun _ => 0) (Pipeline.ucRefs τ sig)
    (fun c => iprop(∃ r, prngReg c r)) (fun c => iprop(∃ r, prngReg c r)) launch1.toP rfl
    (fun c => (Kvb.body_obligation (W2 m) c).loose) (fun c t => rfl) (fun c => rfl)
    (fun c => (Kvb.dat (W2 m) c).share_full fun _ => rfl)
    (fun c => .rfl) (fun c => .rfl) (fun _ => 0) (cut 1) (fun _ => iprop(emp)) (W2 m)
    (fun c w => Kvb.A_eq (W2 m) c w)

set_option backward.isDefEq.respectTransparency.types false in
/-- The third call. -/
def reg2 : RegionSeg (pcfgs (F := F)) adm (dats m) () defs₀ Variants.none L lv 2 :=
  RegionSeg.ofHeldIn (pcfgs (F := F)) adm (dats m) () defs₀ Variants.none L lv 2 (fun _ => 0) (Pipeline.ucRefs τ sig)
    (fun c => iprop(∃ r, prngReg c r)) (fun c => iprop(∃ r, prngReg c r)) launch2.toP rfl
    (fun c => (Attn.body_obligation (W3 m) c).loose) (fun c t => rfl) (fun c => rfl)
    (fun c => (Attn.dat (W3 m) c).share_full fun _ => rfl)
    (fun c => .rfl) (fun c => .rfl) (fun _ => 0) (cut 2) (fun _ => iprop(emp)) (W3 m)
    (fun c w => Attn.A_eq (W3 m) c w)

/-- @main's items, in order. -/
def items : List (Seg (pcfgs (F := F)) adm (dats m) () defs₀ Variants.none L lv) :=
  [.host (pre m), .region (reg0 m), .region (reg1 m), .region (reg2 m), .host (post m)]

theorem items_prog : (items m).map Seg.prog
    = [StableHlo.seq hostOps0, Prog.lift (.customCall (Pipeline.entry 0) ()), Prog.lift (.customCall (Pipeline.entry 1) ()),
        Prog.lift (.customCall (Pipeline.entry 2) ()), StableHlo.seq hostOps3] := rfl

theorem W2_eq (c : Dev nD) : W2 m c = Pipeline.afterRegion (dats m 0 c) (W1 m c) := rfl
theorem W3_eq (c : Dev nD) : W3 m c = Pipeline.afterRegion (dats m 1 c) (W2 m c) := rfl
theorem W4_eq (c : Dev nD) : W4 m c = Pipeline.afterRegion (dats m 2 c) (W3 m c) := rfl

set_option backward.isDefEq.respectTransparency.types false in
theorem held_pre0 (c : Dev nD) : iprop(StableHlo.held (c : Thread nD τ) (Pipeline.ucRefs τ sig) (W1 m c) ∗ E c) ⊢ (reg0 m).pre c := by
  unfold reg0 E
  exact RegionSeg.ofHeldIn_pre (W := W1 m) (D := fun _ => 0) (X := fun c => iprop(∃ r, prngReg c r)) (R := fun _ => iprop(emp)) (arrs 0) c
theorem held_post0 (c : Dev nD) : (reg0 m).post c ⊢ iprop(StableHlo.held (c : Thread nD τ) (Pipeline.ucRefs τ sig) (W2 m c) ∗ E c) := by
  unfold reg0 E
  rw [W2_eq]
  exact RegionSeg.ofHeldIn_post (arrs 0) c
set_option backward.isDefEq.respectTransparency.types false in
theorem held_pre1 (c : Dev nD) : iprop(StableHlo.held (c : Thread nD τ) (Pipeline.ucRefs τ sig) (W2 m c) ∗ E c) ⊢ (reg1 m).pre c := by
  unfold reg1 E
  exact RegionSeg.ofHeldIn_pre (W := W2 m) (D := fun _ => 0) (X := fun c => iprop(∃ r, prngReg c r)) (R := fun _ => iprop(emp)) (arrs 1) c
theorem held_post1 (c : Dev nD) : (reg1 m).post c ⊢ iprop(StableHlo.held (c : Thread nD τ) (Pipeline.ucRefs τ sig) (W3 m c) ∗ E c) := by
  unfold reg1 E
  rw [W3_eq]
  exact RegionSeg.ofHeldIn_post (arrs 1) c
set_option backward.isDefEq.respectTransparency.types false in
theorem held_pre2 (c : Dev nD) : iprop(StableHlo.held (c : Thread nD τ) (Pipeline.ucRefs τ sig) (W3 m c) ∗ E c) ⊢ (reg2 m).pre c := by
  unfold reg2 E
  exact RegionSeg.ofHeldIn_pre (W := W3 m) (D := fun _ => 0) (X := fun c => iprop(∃ r, prngReg c r)) (R := fun _ => iprop(emp)) (arrs 2) c
theorem held_post2 (c : Dev nD) : (reg2 m).post c ⊢ iprop(StableHlo.held (c : Thread nD τ) (Pipeline.ucRefs τ sig) (W4 m c) ∗ E c) := by
  unfold reg2 E
  rw [W4_eq]
  exact RegionSeg.ofHeldIn_post (arrs 2) c

/-! ## The run -/

/-- What the launch hands the run: the pipelines' cells at their opening state. -/
def u₀ : UR sig nD τ := initOf (Pipeline.cells cfgs cellOf_inj) (Pipeline.launchToks cfgs cellOf_inj)

set_option backward.isDefEq.respectTransparency.types false in
/-- Every run of @main ends, leaving in every unscoped buffer what `W5` says and every counter at zero. -/
theorem run (ρ : Dev nD → PrngReg) :
    θ_run defs (onTc (τ := τ) (main (F := F))) ⟨m, fun _ => 0, ρ⟩ fun r =>
      (∀ (c : Dev nD) (b : Ref sig .tc), b.isScoped = false → r.2.mem ((c.tc : Thread nD τ).loc b) = W5 m c (Proc.devRef .tc b))
        ∧ r.2.sem = fun _ => 0 := by
  refine Pipeline.θ_run_regions_kit_sems (pcfgs (F := F)) adm (dats m) () cellOf_inj emb₁ defs₀ Variants.none L lv m ρ main
    (items m) (fun c Q => by
      rw [main_chain c, Seg.run_eq_chain, items_prog])
    (by simp only [items, Seg.pipes_host, Seg.pipes_region, Seg.pipes_nil]; decide)
    (O₀ := 0) (hL := fun g h => if_neg h)
    (G := fun _ => iprop(emp)) (u₀ := u₀)
    (hu₀ := by
      iintro Hu; imodintro
      isplitl [Hu]
      · iapply (show (ownU u₀ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ E c))
    (Tₙ := fun c => StableHlo.held (c : Thread nD τ) (Pipeline.ucRefs τ sig) (W5 m c))
    (hch := ⟨fun _ => .rfl, held_pre0 m, fun c => (held_post0 m c).trans (held_pre1 m c),
      fun c => (held_post1 m c).trans (held_pre2 m c), held_post2 m, fun c =>
      (show iprop(StableHlo.held (c : Thread nD τ) (Pipeline.ucRefs τ sig) (W5 m c) ∗ E c) ⊢ (_ : sProp 𝕄) from by
        unfold E
        iintro ⟨Hh, HO, -, -⟩
        isplitl [Hh] <;> iassumption)⟩)
    (hinit := by
      refine Pipeline.initEach L lv fun c => ?_
      rw [show unscopedBufs c (fun b => m ((c.tc : Thread nD τ).loc b)) = StableHlo.held (c : Thread nD τ) (Pipeline.ucRefs τ sig) (W0 m c)
          from Pipeline.unscopedBufs_held (Ix := Unit) (Name := ℕ) (U := UR sig nD τ) (Lvl := ℕ) c (W0 m c)]
      unfold E
      iintro ⟨⟨Hh, -, HO, -, Hp, -⟩, -⟩
      imodintro
      isplitl [Hh]; · iexact Hh
      isplitl [HO]; · iexists _; iexact HO
      isplitl [Hp]; · iexists _; iexact Hp
      iempintro)
    (QY := fun c s => ∀ b ∈ Pipeline.ucRefs τ sig, s.mem ((c.tc : Thread nD τ).1, b) = W5 m c b)
    (hfin := fun c s' => by
      unfold StableHlo.held
      iintro ⟨Hh, HSI⟩
      ihave Hr := (pointsTo_read_all (Pipeline.ucRefs τ sig) (fun b => ((c.tc : Thread nD τ).1, b)) (W5 m c) s') $$ [Hh HSI]
      · isplitl [Hh] <;> iassumption
      imodintro; iexact Hr)
    (hQ := fun _ h hz => ⟨fun c b hb => h c (Proc.devRef .tc b) (Pipeline.devRef_mem_ucRefs hb),
      funext fun g => hz g (.inr (regions_no_unscoped g.2))⟩)

/-! ## No item writes an argument -/

/-- The buffers the calls write. -/
abbrev outs : List (Ref sig .tc) := [main_v12_0, main_v12_1, main_v13_0, main_v13_1, main_v14_0, main_v14_1]

theorem out0 (r : Ref sig .tc) (hr : r ∉ outs) : ∀ w, Pipeline.arrRef cfg0.spec w = r → (cfg0.win w).isOut = false := by
  intro w hw; subst hw; revert hr w; decide
theorem out1 (r : Ref sig .tc) (hr : r ∉ outs) : ∀ w, Pipeline.arrRef cfg1.spec w = r → (cfg1.win w).isOut = false := by
  intro w hw; subst hw; revert hr w; decide
theorem out2 (r : Ref sig .tc) (hr : r ∉ outs) : ∀ w, Pipeline.arrRef cfg2.spec w = r → (cfg2.win w).isOut = false := by
  intro w hw; subst hw; revert hr w; decide

/-- A buffer no host operation writes and that is the array of no call holds at the end what it held at the start. -/
theorem W5_of (c : Dev nD) (r : Ref sig .tc) (h0 : r ∉ hostOps0_W) (h3 : r ∉ hostOps3_W)
    (hr : r ∉ outs) :
    W5 m c r = m ((c : Thread nD τ).loc r) := by
  have h1 : W1 m c r = m ((c : Thread nD τ).loc r) := StableHlo.after_of_writes_sub hostOps0 _ hostOps0_writes h0
  have h2 : W2 m c r = W1 m c r := Pipeline.afterRegion_keeps _ _ launch0.win.arr_inj (Compress.A_eq (W1 m) c) r (out0 r hr)
  have h3' : W3 m c r = W2 m c r := Pipeline.afterRegion_keeps _ _ launch1.win.arr_inj (Kvb.A_eq (W2 m) c) r (out1 r hr)
  have h4 : W4 m c r = W3 m c r := Pipeline.afterRegion_keeps _ _ launch2.win.arr_inj (Attn.A_eq (W3 m) c) r (out2 r hr)
  exact (StableHlo.after_of_writes_sub hostOps3 _ hostOps3_writes h3).trans (h4.trans (h3'.trans (h2.trans h1)))

/-- Every run of @main ends with the arguments as they were and every counter at zero. -/
theorem frame (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
        ∧ r.2.sem = fun _ => 0 :=
  (θ_run defs _ _).mono (fun r (h : _ ∧ _) => ⟨fun c =>
    ⟨(h.1 c main_arg0 rfl).trans (W5_of m c main_arg0 (by decide) (by decide) (by decide)),
     (h.1 c main_arg1 rfl).trans (W5_of m c main_arg1 (by decide) (by decide) (by decide)),
     (h.1 c main_arg2 rfl).trans (W5_of m c main_arg2 (by decide) (by decide) (by decide)),
     (h.1 c main_arg3 rfl).trans (W5_of m c main_arg3 (by decide) (by decide) (by decide)),
     (h.1 c main_arg4 rfl).trans (W5_of m c main_arg4 (by decide) (by decide) (by decide))⟩, h.2⟩) (run m ρ)

end Cert.KernelIdeal.Run

end
-- ==== Proof.Softmax.lean ====
/-
A softmax over the blocks that a row sees. A block that is not seen weighs nothing, so one more unseen block at the end
changes no weight.
-/
module

public import Idealize.ShloMosaic.Lib.IdealHost
public import Mathlib.Algebra.BigOperators.Fin

@[expose] public section

noncomputable section

namespace Cert.Softmax

open Idealize.ShloMosaic

variable {N : ℕ}

/-- An extended real that is a real number. -/
def IsReal (x : EReal) : Prop := ∃ r : ℝ, x = r

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sum {ι : Type} {s : Finset ι} {f : ι → EReal} (h : ∀ i ∈ s, IsReal (f i)) : IsReal (∑ i ∈ s, f i) := by
  classical
  induction s using Finset.induction with
  | empty => exact ⟨0, by simp⟩
  | insert a s ha ih =>
    rw [Finset.sum_insert ha]
    exact (h a (Finset.mem_insert_self a s)).add (ih fun i hi => h i (Finset.mem_insert_of_mem hi))

/-- The logits of row `t`: block `n` is seen from row `16 n + 31` on. -/
def hide (x : Fin N → EReal) (t : ℕ) (n : Fin N) : EReal := if 16 * n.val + 31 ≤ t then x n else ⊥

/-- The greatest of them. -/
def top (x : Fin N → EReal) (t : ℕ) : EReal := Finset.univ.fold max ⊥ (hide x t)

/-- The exponentials. -/
def weight (x : Fin N → EReal) (t : ℕ) (n : Fin N) : EReal := Ideal.exp (hide x t n - top x t)

/-- The weights, zero where nothing is seen. -/
def soft (x : Fin N → EReal) (t : ℕ) (n : Fin N) : EReal :=
  Ideal.div (weight x t n) (∑ k, weight x t k) * (if 31 ≤ t then 1 else 0)

theorem exp_nonneg (x : EReal) : 0 ≤ Ideal.exp x := by
  induction x using EReal.rec with
  | bot => simp
  | coe r => rw [Ideal.exp_coe]; exact_mod_cast (Real.exp_pos r).le
  | top => simp

theorem top_eq_sup (x : Fin N → EReal) (t : ℕ) : top x t = Finset.univ.sup (hide x t) := rfl

/-- A row that sees a block, all logits real, has a positive sum. -/
theorem sum_pos (x : Fin (N + 1) → EReal) {t : ℕ} (ht : 31 ≤ t) (hx : ∀ n, IsReal (x n)) : 0 < ∑ k, weight x t k := by
  have h0 : hide x t 0 = x 0 := if_pos (by simpa using ht)
  have hlt : top x t < ⊤ := by
    rw [top_eq_sup, Finset.sup_lt_iff bot_lt_top]
    intro n _
    unfold hide
    split
    · obtain ⟨r, hr⟩ := hx n; rw [hr]; exact EReal.coe_lt_top r
    · exact bot_lt_top
  have hle : x 0 ≤ top x t := by
    rw [top_eq_sup, ← h0]; exact Finset.le_sup (Finset.mem_univ _)
  have hw : 0 < weight x t 0 := by
    unfold weight
    rw [h0]
    obtain ⟨r, hr⟩ := hx 0
    rw [hr] at hle ⊢
    induction hs : top x t using EReal.rec with
    | bot => rw [hs] at hle; exact absurd hle (not_le.2 (EReal.bot_lt_coe r))
    | coe s => rw [← EReal.coe_sub, Ideal.exp_coe]; exact_mod_cast Real.exp_pos _
    | top => rw [hs] at hlt; exact absurd hlt (lt_irrefl _)
  exact hw.trans_le (Finset.single_le_sum (f := weight x t) (fun n _ => exp_nonneg _) (Finset.mem_univ 0))

theorem soft_nonneg (x : Fin (N + 1) → EReal) (t : ℕ) (hx : ∀ n, IsReal (x n)) (n : Fin (N + 1)) : 0 ≤ soft x t n := by
  unfold soft
  by_cases ht : 31 ≤ t
  · have hs := sum_pos x ht hx
    rw [if_pos ht, mul_one]
    unfold Ideal.div
    rw [if_neg hs.ne']
    exact mul_nonneg (exp_nonneg _) (EReal.inv_nonneg_of_nonneg hs.le)
  · rw [if_neg ht, mul_zero]

section Last

variable (x : Fin (N + 2) → EReal) {t : ℕ} (hl : t < 16 * (N + 1) + 31)

include hl in
theorem hide_last : hide x t (Fin.last (N + 1)) = ⊥ := if_neg (by simpa using hl)

theorem hide_castSucc (n : Fin (N + 1)) : hide x t n.castSucc = hide (fun n => x n.castSucc) t n := rfl

include hl in
theorem top_castSucc : top x t = top (fun n => x n.castSucc) t := by
  rw [top_eq_sup, top_eq_sup]
  refine le_antisymm (Finset.sup_le fun n _ => ?_) (Finset.sup_le fun n _ => ?_)
  · induction n using Fin.lastCases with
    | last => rw [hide_last x hl]; exact bot_le
    | cast n => exact Finset.le_sup (f := hide (fun n => x n.castSucc) t) (Finset.mem_univ n)
  · exact Finset.le_sup (f := hide x t) (Finset.mem_univ n.castSucc)

include hl in
theorem weight_castSucc (n : Fin (N + 1)) : weight x t n.castSucc = weight (fun n => x n.castSucc) t n := by
  unfold weight; rw [top_castSucc x hl]; rfl

include hl in
theorem weight_last : weight x t (Fin.last (N + 1)) = 0 := by
  unfold weight; rw [hide_last x hl, EReal.bot_sub, Ideal.exp_bot]

include hl in
theorem sum_castSucc : ∑ k, weight x t k = ∑ k, weight (fun n => x n.castSucc) t k := by
  rw [Fin.sum_univ_castSucc, weight_last x hl, add_zero]
  exact Finset.sum_congr rfl fun n _ => weight_castSucc x hl n

include hl in
/-- The weights of the seen blocks do not depend on the last one. -/
theorem soft_castSucc (n : Fin (N + 1)) : soft x t n.castSucc = soft (fun n => x n.castSucc) t n := by
  unfold soft; rw [sum_castSucc x hl, weight_castSucc x hl]

include hl in
/-- The last block weighs nothing. -/
theorem soft_last (hx : ∀ n : Fin (N + 1), IsReal (x n.castSucc)) : soft x t (Fin.last (N + 1)) = 0 := by
  unfold soft
  by_cases ht : 31 ≤ t
  · rw [weight_last x hl, sum_castSucc x hl]
    have hs := sum_pos _ ht hx
    unfold Ideal.div
    rw [if_neg hs.ne', zero_mul, zero_mul]
  · rw [if_neg ht, mul_zero]

end Last

end Cert.Softmax

end
-- ==== Proof.Finite.lean ====
/-
What the precondition says: every entry of every argument is a real number.
-/
module

public import proofs.«01_k».proof.Pre_finite
public import proofs.«01_k».proof.Proof.Softmax
public import Idealize.ShloMosaic.Lib.ReduceAll
public import Idealize.ShloMosaic.Lib.Pointwise
public import Idealize.ShloMosaic.Lib.IdealHost

@[expose] public section

noncomputable section

namespace Cert.Pre_finite

open Idealize.ShloMosaic Cert.Softmax

theorem facts : Facts where
  bcast_S_S4096x16x192 := by decide
  reducesTo_S4096x16x192_S_d0_1_2 := by decide
  h_S_ := by decide
  bcast_S_S4096x576 := by decide
  reducesTo_S4096x576_S_d0_1 := by decide
  bcast_S_S16384x512 := by decide
  reducesTo_S16384x512_S_d0_1 := by decide
  bcast_S_S2048x64 := by decide
  reducesTo_S2048x64_S_d0_1 := by decide
  bcast_S_S512x4096 := by decide
  reducesTo_S512x4096_S_d0_1 := by decide

instance : Subsingleton S_.Idx := ⟨fun a b => funext fun k => k.elim0⟩

/-- An extended real whose absolute value is below +∞ is a real number. -/
theorem isReal_of {x : EReal} (h : max x (-x) < ⊤) : IsReal x := by
  induction x with
  | bot => simp at h
  | coe r => exact ⟨r, rfl⟩
  | top => simp at h

/-- One argument's part of the predicate: where it is 1, every entry is a real number. -/
theorem isReal_of_all {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant S_ .f32 0x7F800000#32)))
      (constantI S_ 1 1#1) h hu j = 1#1) (i : s.Idx) : IsReal (x i) := by
  have h1 := Host.reduce_andi_all _ _ _ _ j e i
  simp only [pointwise] at h1
  have h2 : FloatOps.absf (x i) < Ideal.ofBits .f32 0x7F800000#32 := by
    by_contra hn
    simp [hn] at h1
  rw [show Ideal.ofBits .f32 0x7F800000#32 = ⊤ by simp [Ideal.ofBits, Ideal.ieee]] at h2
  exact isReal_of h2

variable [Facts]

theorem real (a0 : FVec Ideal S4096x16x192 .f32) (a1 : FVec Ideal S4096x576 .f32) (a2 : FVec Ideal S16384x512 .f32)
    (a3 : FVec Ideal S2048x64 .f32) (a4 : FVec Ideal S512x4096 .f32) (e : fn (F := Ideal) a0 a1 a2 a3 a4 = fun _ => 1#1) :
    (∀ i, IsReal (a0 i)) ∧ (∀ i, IsReal (a1 i)) ∧ (∀ i, IsReal (a2 i)) ∧ (∀ i, IsReal (a3 i)) ∧ ∀ i, IsReal (a4 i) := by
  have e := congrFun e (fun k => k.elim0)
  unfold fn fn_part1 at e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨isReal_of_all _ _ _ _ _ h0, isReal_of_all _ _ _ _ _ h1, isReal_of_all _ _ _ _ _ h2, isReal_of_all _ _ _ _ _ h3,
    isReal_of_all _ _ _ _ _ h4⟩

end Cert.Pre_finite

end
-- ==== Proof.Words.lean ====
/-
Words of 32 bits that hold small numbers: rows, blocks, and the comparisons between them.
-/
module

public import Idealize.ShloMosaic.Lib.WordCmp
public import Idealize.ShloMosaic.Lib.Pointwise
public import Idealize.ShloMosaic.Lib.IdealHost

@[expose] public section

set_option maxRecDepth 16384

noncomputable section

namespace Cert.Words

open Idealize.ShloMosaic Idealize.ShloMosaic.WordCmp

/-- A row of a tile, counted in the whole array. -/
theorem row (i r : ℕ) :
    IntOp.addi (Scalar.muli (BitVec.ofNat 32 i) 256#32) (BitVec.ofNat 32 r) = BitVec.ofNat 32 (i * 256 + r) := by
  show BitVec.ofNat 32 i * 256#32 + BitVec.ofNat 32 r = _
  rw [BitVec.ofNat_add, BitVec.ofNat_mul]

/-- The last row that block `n` compresses. -/
theorem last (n : ℕ) : IntOp.addi (IntOp.muli (BitVec.ofNat 32 n) 16#32) 31#32 = BitVec.ofNat 32 (16 * n + 31) := by
  show BitVec.ofNat 32 n * 16#32 + 31#32 = _
  rw [BitVec.ofNat_add, BitVec.ofNat_mul, BitVec.mul_comm]

/-- The same, counted from the end of the block. -/
theorem last' (n : ℕ) :
    IntOp.subi (IntOp.addi (IntOp.muli (BitVec.ofNat 32 n) 16#32) 32#32) 1#32 = BitVec.ofNat 32 (16 * n + 31) := by
  show BitVec.ofNat 32 n * 16#32 + 32#32 - 1#32 = _
  rw [BitVec.ofNat_add, BitVec.ofNat_mul, BitVec.mul_comm, BitVec.sub_eq_add_neg, BitVec.add_assoc]
  rfl

theorem sge {a b : ℕ} (ha : a < 2 ^ 31) (hb : b < 2 ^ 31) :
    IntOp.cmpi .sge (BitVec.ofNat 32 a) (BitVec.ofNat 32 b) = BitVec.ofBool (decide (b ≤ a)) := by
  rw [cmpi_sge_eq, BitVec.toInt_eq_toNat_of_lt, BitVec.toInt_eq_toNat_of_lt, BitVec.toNat_ofNat, BitVec.toNat_ofNat,
    Nat.mod_eq_of_lt (by omega), Nat.mod_eq_of_lt (by omega)]
  · congr 2; simp
  all_goals rw [BitVec.toNat_ofNat, Nat.mod_eq_of_lt (by omega)]; omega

theorem select_ofBool {α : Type} (p : Prop) [Decidable p] (x y : α) :
    Scalar.select (BitVec.ofBool (decide p)) x y = if p then x else y := by
  by_cases h : p <;> simp [h, Scalar.select]

/-- Row `t` sees block `n`. -/
theorem select_sees {α : Type} {t n : ℕ} (ht : t < 4096) (hn : n < 256) (x y : α) :
    Scalar.select (IntOp.cmpi .sge (BitVec.ofNat 32 t) (BitVec.ofNat 32 (16 * n + 31))) x y
      = if 16 * n + 31 ≤ t then x else y := by
  rw [sge (by omega) (by omega), select_ofBool]

/-- One if row `t` sees a block, else zero. -/
theorem seen {t : ℕ} (ht : t < 4096) :
    FloatOps.sitofp (F := Ideal) .f32 (BitVec.setWidth 32 (IntOp.cmpi .sge (BitVec.ofNat 32 t) 31#32))
      = if 31 ≤ t then 1 else 0 := by
  rw [show (31#32 : BitVec 32) = BitVec.ofNat 32 31 from rfl, sge (by omega) (by omega)]
  show (((BitVec.setWidth 32 (BitVec.ofBool (decide (31 ≤ t)))).toInt : ℝ) : EReal) = _
  by_cases h : 31 ≤ t
  · rw [if_pos h, decide_eq_true h]
    have : (BitVec.setWidth 32 (BitVec.ofBool true)).toInt = 1 := by decide
    rw [this]; norm_num
  · rw [if_neg h, decide_eq_false h]
    have : (BitVec.setWidth 32 (BitVec.ofBool false)).toInt = 0 := by decide
    rw [this]; norm_num

/-- The reference's flag: whether row `t` sees any of the blocks. -/
theorem seen' {t : ℕ} (ht : t < 4096) :
    FloatOps.uitofp (F := Ideal) .f32 (Finset.univ.fold IntOp.ori 0#1
        (fun n : Fin 255 => IntOp.cmpi .sge (BitVec.ofNat 32 t) (BitVec.ofNat 32 (16 * n.val + 31))))
      = if 31 ≤ t then 1 else 0 := by
  have hor : ∀ s : Finset (Fin 255), s.fold IntOp.ori 0#1
        (fun n : Fin 255 => IntOp.cmpi .sge (BitVec.ofNat 32 t) (BitVec.ofNat 32 (16 * n.val + 31)))
      = BitVec.ofBool (decide (∃ n ∈ s, 16 * n.val + 31 ≤ t)) := by
    intro s
    induction s using Finset.induction with
    | empty => simp
    | insert a s ha ih =>
      rw [Finset.fold_insert ha, ih, sge (by omega) (by omega), ori_ofBool]
      congr 1
      rw [← Bool.decide_or]
      exact decide_eq_decide.2 (by simp)
  rw [hor]
  have he : (∃ n ∈ (Finset.univ : Finset (Fin 255)), 16 * n.val + 31 ≤ t) ↔ 31 ≤ t :=
    ⟨fun ⟨n, _, h⟩ => by omega, fun h => ⟨⟨0, by omega⟩, Finset.mem_univ _, by simpa using h⟩⟩
  rw [decide_eq_decide.2 he]
  show (((BitVec.ofBool (decide (31 ≤ t))).toNat : ℝ) : EReal) = _
  by_cases h : 31 ≤ t
  · rw [if_pos h, decide_eq_true h]; simp
  · rw [if_neg h, decide_eq_false h]; simp

/-- The selection block of a row, as the kernel computes it: the quotient rounded down. -/
theorem block {t : ℕ} (ht : t < 4096) :
    Scalar.select
        (IntOp.andi
          (IntOp.cmpi .ne
            (IntOp.subi (BitVec.setWidth 32 (IntOp.cmpi .sgt (BitVec.ofNat 32 t) 0#32))
              (BitVec.setWidth 32 (IntOp.cmpi .slt (BitVec.ofNat 32 t) 0#32)))
            (Scalar.subi (Scalar.extui (Scalar.cmpi .sgt 64#32 0#32)) (Scalar.extui (Scalar.cmpi .slt 64#32 0#32))))
          (IntOp.cmpi .ne (IntOp.remsi .vector (BitVec.ofNat 32 t) 64#32) 0#32))
        (IntOp.subi (IntOp.divsi .vector (BitVec.ofNat 32 t) 64#32) 1#32) (IntOp.divsi .vector (BitVec.ofNat 32 t) 64#32)
      = BitVec.ofNat 32 (t / 64) := by
  have h : ∀ t : Fin 4096, Scalar.select
        (IntOp.andi
          (IntOp.cmpi .ne
            (IntOp.subi (BitVec.setWidth 32 (IntOp.cmpi .sgt (BitVec.ofNat 32 t.val) 0#32))
              (BitVec.setWidth 32 (IntOp.cmpi .slt (BitVec.ofNat 32 t.val) 0#32)))
            (Scalar.subi (Scalar.extui (Scalar.cmpi .sgt 64#32 0#32)) (Scalar.extui (Scalar.cmpi .slt 64#32 0#32))))
          (IntOp.cmpi .ne (IntOp.remsi .vector (BitVec.ofNat 32 t.val) 64#32) 0#32))
        (IntOp.subi (IntOp.divsi .vector (BitVec.ofNat 32 t.val) 64#32) 1#32)
        (IntOp.divsi .vector (BitVec.ofNat 32 t.val) 64#32)
      = BitVec.ofNat 32 (t.val / 64) := by decide +kernel
  exact h ⟨t, ht⟩

/-- The same as the reference computes it. -/
theorem block' {t : ℕ} (ht : t < 4096) :
    Scalar.select
        (IntOp.andi
          (IntOp.cmpi .ne
            (if BitVec.ofNat 32 t = 0 then (0 : BitVec 32) else if (BitVec.ofNat 32 t).msb = true then -1 else 1)
            (if (64#32 : BitVec 32) = 0 then (0 : BitVec 32) else if (64#32 : BitVec 32).msb = true then -1 else 1))
          (IntOp.cmpi .ne (IntOp.remsi .host (BitVec.ofNat 32 t) 64#32) 0#32))
        (IntOp.subi (IntOp.divsi .host (BitVec.ofNat 32 t) 64#32) 1#32) (IntOp.divsi .host (BitVec.ofNat 32 t) 64#32)
      = BitVec.ofNat 32 (t / 64) := by
  have h : ∀ t : Fin 4096, Scalar.select
        (IntOp.andi
          (IntOp.cmpi .ne
            (if BitVec.ofNat 32 t.val = 0 then (0 : BitVec 32) else if (BitVec.ofNat 32 t.val).msb = true then -1 else 1)
            (if (64#32 : BitVec 32) = 0 then (0 : BitVec 32) else if (64#32 : BitVec 32).msb = true then -1 else 1))
          (IntOp.cmpi .ne (IntOp.remsi .host (BitVec.ofNat 32 t.val) 64#32) 0#32))
        (IntOp.subi (IntOp.divsi .host (BitVec.ofNat 32 t.val) 64#32) 1#32)
        (IntOp.divsi .host (BitVec.ofNat 32 t.val) 64#32)
      = BitVec.ofNat 32 (t.val / 64) := by decide +kernel
  exact h ⟨t, ht⟩

/-- The float pattern of minus infinity. -/
theorem ofBits_bot : Ideal.ofBits .f32 0xFF800000#32 = ⊥ := by simp [Ideal.ofBits, Ideal.ieee]

/-- The two large scores are opposite. -/
theorem ofBits_neg_large : Ideal.ofBits .f32 0xCE6E6B28#32 = 0 - Ideal.ofBits .f32 0x4E6E6B28#32 := by
  simp [Ideal.ofBits, Ideal.ieee, -EReal.coe_mul, -EReal.coe_neg]
  norm_cast

theorem large_ne_bot : Ideal.ofBits .f32 0x4E6E6B28#32 ≠ ⊥ := by
  simp [Ideal.ofBits, Ideal.ieee, -EReal.coe_mul, -EReal.coe_neg]

theorem neg_large_ne_bot : 0 - Ideal.ofBits .f32 0x4E6E6B28#32 ≠ ⊥ := by
  rw [← ofBits_neg_large]
  simp [Ideal.ofBits, Ideal.ieee, -EReal.coe_mul, -EReal.coe_neg]

/-- The scale is a real number. -/
theorem scale_real : ∃ r : ℝ, Ideal.ofBits .f32 0x3D93CD3A#32 = r := by
  simp only [Ideal.ofBits, Ideal.ieee]
  rw [if_neg (by decide), if_neg (by decide)]
  exact ⟨_, rfl⟩

end Cert.Words

end
-- ==== Proof.Topk.lean ====
/-
The sixteen largest entries of a row, found two ways: by a stable sort, greatest first, and by striking out the
largest entry again and again. Both name the same positions.
-/
module

public import Idealize.ShloMosaic.Lib.SortFacts
public import Idealize.ShloMosaic.PureOps
public import Mathlib.Data.EReal.Basic

@[expose] public section

noncomputable section

namespace Cert.Topk

open Idealize.ShloMosaic

variable {N : ℕ}

/-- `i` is the place of the row's largest entry, the first such place. -/
def IsPick (x : Fin N → EReal) (i : Fin N) : Prop := (∀ j, x j ≤ x i) ∧ ∀ j, j < i → x j < x i

theorem IsPick.unique {x : Fin N → EReal} {i i' : Fin N} (h : IsPick x i) (h' : IsPick x i') : i = i' := by
  rcases lt_trichotomy i i' with hl | he | hg
  · exact absurd (h.1 i') (not_le.2 (h'.2 i hl))
  · exact he
  · exact absurd (h'.1 i) (not_le.2 (h.2 i' hg))

/-- A row that has an entry has a largest one. -/
theorem exists_isPick (x : Fin (N + 1) → EReal) : ∃ i, IsPick x i := by
  obtain ⟨m, -, hm⟩ := Finset.univ.exists_max_image x ⟨0, Finset.mem_univ _⟩
  replace hm : ∀ j, x j ≤ x m := fun j => hm j (Finset.mem_univ j)
  have hex : ∃ n, ∃ h : n < N + 1, x ⟨n, h⟩ = x m := ⟨m.val, m.isLt, rfl⟩
  classical
  obtain ⟨h, he⟩ := Nat.find_spec hex
  refine ⟨⟨Nat.find hex, h⟩, fun j => he.symm ▸ hm j, fun j hj => ?_⟩
  refine lt_of_le_of_ne (he.symm ▸ hm j) fun e => ?_
  exact Nat.find_min hex (m := j.val) hj ⟨j.isLt, e.trans he⟩

/-- One entry of the row struck out. -/
def strike (x : Fin N → EReal) (i : Fin N) : Fin N → EReal := fun j => if j = i then ⊥ else x j

/-- Greater entries first. -/
def greater (x : Fin N → EReal) (a b : Fin N) : Bool := decide (x b < x a)

/-- Greater entries first, equal ones by place. -/
def lex (x : Fin N → EReal) (a b : Fin N) : Bool := decide (x b < x a ∨ (x a = x b ∧ a < b))

/-- Sorting stably by the entries alone sorts by entry and place. -/
theorem stableSort_lex (x : Fin N → EReal) (l : List (Fin N)) (hl : l.Pairwise (· < ·)) :
    stableSort (greater x) l = stableSort (lex x) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.1 hb)
    unfold greater lex
    exact decide_eq_decide.2 ⟨Or.inl, fun h => h.elim id fun h => absurd h.2 (not_lt.2 hab.le)⟩

theorem sortedFrom_lex (x : Fin N → EReal) (k : Fin N) : sortedFrom (greater x) k = sortedFrom (lex x) k := by
  have h : sortPositions N (greater x) = sortPositions N (lex x) :=
    stableSort_lex x _ (List.pairwise_lt_finRange N)
  unfold sortedFrom
  rw [List.get_of_eq h]
  rfl

/-- The order that the sort leaves: a later entry is smaller, or equal and further right. -/
theorem sorted_le (x : Fin N → EReal) {r s : Fin N} (h : r < s) :
    x (sortedFrom (greater x) s) ≤ x (sortedFrom (greater x) r)
      ∧ (x (sortedFrom (greater x) s) = x (sortedFrom (greater x) r) →
          sortedFrom (greater x) r ≤ sortedFrom (greater x) s) := by
  have hR := sortedFrom_noInversion (lex x) (lex x)
    (fun a b h => by
      unfold lex at *
      simp only [decide_eq_true_eq, decide_eq_false_iff_not, not_or, not_and, not_lt] at *
      rcases h with h | h
      · exact ⟨h.le, fun e => absurd e h.ne⟩
      · exact ⟨h.1.symm.le, fun _ => h.2.le⟩)
    (fun _ _ h => h)
    (fun a b c h h' => by
      unfold lex at *
      simp only [decide_eq_false_iff_not, not_or, not_and, not_lt] at *
      refine ⟨h.1.trans h'.1, fun e => ?_⟩
      have e1 : x a = x b := le_antisymm h.1 (h'.1.trans e.symm.le)
      exact (h'.2 (e1.symm.trans e)).trans (h.2 e1)) r s h
  rw [← sortedFrom_lex, ← sortedFrom_lex] at hR
  unfold lex at hR
  simp only [decide_eq_false_iff_not, not_or, not_and, not_lt] at hR
  exact hR

/-- The row after the `r` greatest entries have been struck out. -/
def after (x : Fin N → EReal) (r : ℕ) : Fin N → EReal :=
  fun j => if ∃ s : Fin N, s.val < r ∧ sortedFrom (greater x) s = j then ⊥ else x j

theorem after_zero (x : Fin N → EReal) : after x 0 = x := by
  funext j; unfold after; rw [if_neg]; rintro ⟨s, hs, -⟩; exact absurd hs (Nat.not_lt_zero _)

theorem after_succ (x : Fin N → EReal) (r : Fin N) :
    after x (r.val + 1) = strike (after x r.val) (sortedFrom (greater x) r) := by
  funext j
  unfold strike after
  by_cases hj : j = sortedFrom (greater x) r
  · rw [if_pos ⟨r, Nat.lt_succ_self _, hj.symm⟩, if_pos hj]
  · rw [if_neg hj]
    refine if_congr ⟨?_, ?_⟩ rfl rfl
    · rintro ⟨s, hs, he⟩
      refine ⟨s, lt_of_le_of_ne (Nat.lt_succ_iff.1 hs) fun e => hj ?_, he⟩
      rw [← he, Fin.ext e]
    · rintro ⟨s, hs, he⟩; exact ⟨s, Nat.lt_succ_of_lt hs, he⟩

/-- With `r` entries struck out, the largest that is left stands where the sort puts entry `r`. -/
theorem isPick_after (x : Fin N → EReal) (hx : ∀ j, x j ≠ ⊥) (r : Fin N) :
    IsPick (after x r.val) (sortedFrom (greater x) r) := by
  have hr : after x r.val (sortedFrom (greater x) r) = x (sortedFrom (greater x) r) := by
    unfold after
    rw [if_neg]
    rintro ⟨s, hs, he⟩
    exact absurd (sortedFrom_injective _ he) (fun e => absurd hs (by rw [e]; exact lt_irrefl _))
  have key : ∀ j, after x r.val j < x (sortedFrom (greater x) r)
      ∨ (after x r.val j = x (sortedFrom (greater x) r) ∧ sortedFrom (greater x) r ≤ j) := by
    intro j
    obtain ⟨s, rfl⟩ := sortedFrom_surjective (greater x) j
    by_cases hs : s.val < r.val
    · left
      unfold after
      rw [if_pos ⟨s, hs, rfl⟩]
      exact bot_lt_iff_ne_bot.2 (hx _)
    · have hsr : after x r.val (sortedFrom (greater x) s) = x (sortedFrom (greater x) s) := by
        unfold after
        rw [if_neg]
        rintro ⟨s', hs', he⟩
        rw [sortedFrom_injective _ he] at hs'
        exact hs hs'
      rw [hsr]
      rcases eq_or_lt_of_le (show r ≤ s from not_lt.1 hs) with e | hlt
      · subst e; exact .inr ⟨rfl, le_refl _⟩
      · obtain ⟨h1, h2⟩ := sorted_le x hlt
        rcases lt_or_eq_of_le h1 with h | h
        · exact .inl h
        · exact .inr ⟨h, h2 h⟩
  refine ⟨fun j => ?_, fun j hj => ?_⟩
  · rw [hr]; rcases key j with h | h
    · exact h.le
    · exact h.1.le
  · rw [hr]; rcases key j with h | h
    · exact h
    · exact absurd hj (not_lt.2 h.2)

end Cert.Topk

end
-- ==== Proof.Spec.lean ====
/-
What the program computes, at an index, over the extended reals: compressed rows, keys and values, the softmax weights,
the attention output, and the scores of the selection blocks.
-/
module

public import proofs.«01_k».proof.Proof.Words
public import proofs.«01_k».proof.Proof.Softmax
public import proofs.«01_k».proof.Proof.Topk

@[expose] public section

noncomputable section

namespace Cert.Spec

open Idealize.ShloMosaic Cert.Softmax

/-- The five arguments, and the table that says how much of a block lies in a selection block. -/
structure Args where
  q : FVec Ideal ⟨3, ![4096, 16, 192]⟩ .f32
  kv : FVec Ideal ⟨2, ![4096, 576]⟩ .f32
  wc : FVec Ideal ⟨2, ![16384, 512]⟩ .f32
  wp : FVec Ideal ⟨2, ![2048, 64]⟩ .f32
  wb : FVec Ideal ⟨2, ![512, 4096]⟩ .f32
  ov : Fin 255 → Fin 64 → EReal

/-- Every entry of the arguments is a real number, and no entry of the table is negative. -/
structure Args.Real (a : Args) : Prop where
  q : ∀ j, IsReal (a.q j)
  kv : ∀ j, IsReal (a.kv j)
  wc : ∀ j, IsReal (a.wc j)
  wp : ∀ j, IsReal (a.wp j)
  wb : ∀ j, IsReal (a.wb j)
  ov : ∀ n j, 0 ≤ a.ov n j

variable (a : Args)

/-- Block `n` compressed: its 32 rows, side by side, against the weights. -/
def comp (n : Fin 255) (l : Fin 512) : EReal :=
  ∑ j : Fin 16384, a.kv (ix2 ⟨16 * n.val + j.val / 512, by omega⟩ ⟨j.val % 512, by omega⟩) * a.wc (ix2 j l)

/-- Its position part. -/
def pos (n : Fin 255) (d : Fin 64) : EReal :=
  ∑ j : Fin 2048, a.kv (ix2 ⟨16 * n.val + j.val / 64, by omega⟩ ⟨512 + j.val % 64, by omega⟩) * a.wp (ix2 j d)

/-- Keys and values of all heads. -/
def proj (n : Fin 255) (j : Fin 4096) : EReal := ∑ l : Fin 512, comp a n l * a.wb (ix2 l j)

def key (h : Fin 16) (n : Fin 255) (d : Fin 192) : EReal :=
  if hd : d.val < 128 then proj a n ⟨h.val * 256 + d.val, by omega⟩ else pos a n ⟨d.val - 128, by omega⟩

def val (h : Fin 16) (n : Fin 255) (d : Fin 128) : EReal := proj a n ⟨h.val * 256 + (128 + d.val), by omega⟩

/-- The scaled product of a query and a key. -/
def logit (t : Fin 4096) (h : Fin 16) (n : Fin 255) : EReal :=
  (∑ d : Fin 192, a.q (ix3 t h d) * key a h n d) * Ideal.ofBits .f32 0x3D93CD3A#32

/-- The attention weights. -/
def prob (t : Fin 4096) (h : Fin 16) (n : Fin 255) : EReal := soft (logit a t h) t.val n

/-- The attention output. -/
def out (t : Fin 4096) (h : Fin 16) (d : Fin 128) : EReal := ∑ n : Fin 255, prob a t h n * val a h n d

/-- The weights of all heads, pooled to selection blocks. -/
def pooled (t : Fin 4096) (j : Fin 64) : EReal := ∑ n : Fin 255, (∑ h : Fin 16, prob a t h n) * a.ov n j

/-- The score of selection block `j` for a token of selection block `c`, `s` its pooled weight. -/
def rate (c : ℕ) (s : EReal) (j : Fin 64) : EReal :=
  Scalar.select
    (IntOp.andi
      (IntOp.ori (IntOp.cmpi .slt (BitVec.ofNat 32 j.val) 1#32)
        (IntOp.andi (IntOp.cmpi .sge (IntOp.subi (BitVec.ofNat 32 c) (BitVec.ofNat 32 j.val)) 0#32)
          (IntOp.cmpi .slt (IntOp.subi (BitVec.ofNat 32 c) (BitVec.ofNat 32 j.val)) 2#32)))
      (IntOp.cmpi .sle (BitVec.ofNat 32 j.val) (BitVec.ofNat 32 c)))
    (Ideal.ofBits .f32 0x4E6E6B28#32)
    (Scalar.select (IntOp.cmpi .sle (BitVec.ofNat 32 j.val) (BitVec.ofNat 32 c)) s (0 - Ideal.ofBits .f32 0x4E6E6B28#32))

def score (t : Fin 4096) (j : Fin 64) : EReal := rate (t.val / 64) (pooled a t j) j

/-- The selection block that stands at place `r` of the token's best. -/
def best (t : Fin 4096) (r : Fin 64) : Fin 64 := sortedFrom (Topk.greater (score a t)) r

variable {a}

theorem comp_real (ha : a.Real) (n : Fin 255) (l : Fin 512) : IsReal (comp a n l) :=
  IsReal.sum fun _ _ => (ha.kv _).mul (ha.wc _)

theorem pos_real (ha : a.Real) (n : Fin 255) (d : Fin 64) : IsReal (pos a n d) :=
  IsReal.sum fun _ _ => (ha.kv _).mul (ha.wp _)

theorem proj_real (ha : a.Real) (n : Fin 255) (j : Fin 4096) : IsReal (proj a n j) :=
  IsReal.sum fun _ _ => (comp_real ha _ _).mul (ha.wb _)

theorem key_real (ha : a.Real) (h : Fin 16) (n : Fin 255) (d : Fin 192) : IsReal (key a h n d) := by
  unfold key; split
  · exact proj_real ha _ _
  · exact pos_real ha _ _

theorem logit_real (ha : a.Real) (t : Fin 4096) (h : Fin 16) (n : Fin 255) : IsReal (logit a t h n) :=
  (IsReal.sum fun _ _ => (ha.q _).mul (key_real ha _ _ _)).mul Words.scale_real

theorem prob_nonneg (ha : a.Real) (t : Fin 4096) (h : Fin 16) (n : Fin 255) : 0 ≤ prob a t h n :=
  soft_nonneg (N := 254) _ _ (logit_real ha t h) n

theorem pooled_nonneg (ha : a.Real) (t : Fin 4096) (j : Fin 64) : 0 ≤ pooled a t j :=
  Finset.sum_nonneg fun n _ => mul_nonneg (Finset.sum_nonneg fun h _ => prob_nonneg ha t h n) (ha.ov n j)

/-- No score is minus infinity. -/
theorem score_ne_bot (ha : a.Real) (t : Fin 4096) (j : Fin 64) : score a t j ≠ ⊥ := by
  unfold score rate Scalar.select
  split
  · exact Words.large_ne_bot
  · split
    · exact ((EReal.bot_lt_zero).trans_le (pooled_nonneg ha t j)).ne'
    · exact Words.neg_large_ne_bot

end Cert.Spec

end
-- ==== Proof.KernelIdeal.AttnPoint.lean ====
/-
The attention call's arithmetic read at an index.
-/
module

public import proofs.«01_k».proof.Proof.KernelIdeal.Attn
public import proofs.«01_k».proof.Proof.Spec

@[expose] public section

set_option maxRecDepth 16384

noncomputable section

namespace Cert.KernelIdeal.Attn

open Cert.KernelIdeal.Gen
open Idealize.ShloMosaic Cert.Softmax

theorem at_row {a b : ℕ} (r : Fin a) (c : Fin b) :
    List.foldl (fun n x => n * (![a, b] : Fin 2 → ℕ) x + ((ix2 r c x : Fin _) : ℕ)) 0 [0] = r.val := by
  simp [ix2]

theorem at_col {a b : ℕ} (r : Fin a) (c : Fin b) :
    List.foldl (fun n x => n * (![a, b] : Fin 2 → ℕ) x + ((ix2 r c x : Fin _) : ℕ)) 0 [1] = c.val := by
  simp [ix2]

theorem mask_bot : Named.named (F := Ideal) κ "mask" (φ := .f32) 0xCE6E6B28#32 = ⊥ := rfl

/-- The logits of one row of a tile, over all 256 blocks. -/
def logits (q : Vec Ideal S256x1x192 .f32) (k : Vec Ideal S1x256x192 .f32) (r : Fin 256) (c : Fin 256) : EReal :=
  (∑ d : Fin 192, q (ix3 r 0 d) * k (ix3 0 c d)) * Ideal.ofBits .f32 0x3D93CD3A#32

set_option maxHeartbeats 1000000 in
/-- A head's weights are the softmax of its logits. -/
theorem probs_apply (i : grid2.Coords) (q : Vec Ideal S256x1x192 .f32) (k : Vec Ideal S1x256x192 .f32) (r c : Fin 256) :
    probs i q k (ix2 r c) = soft (logits q k r) ((i 0).val * 256 + r.val) c := by
  have hi : (i 0).val < 16 := (i 0).isLt
  have ht : (i 0).val * 256 + r.val < 4096 := by omega
  have hsum : ∑ c, weight (logits q k r) ((i 0).val * 256 + r.val) c
      = ∑ c : Fin 128, (weight (logits q k r) ((i 0).val * 256 + r.val) (Fin.castAdd 128 c)
          + weight (logits q k r) ((i 0).val * 256 + r.val) (Fin.natAdd 128 c)) := by
    rw [Finset.sum_add_distrib]
    exact Fin.sum_univ_add (a := 128) (b := 128) (weight (logits q k r) ((i 0).val * 256 + r.val))
  unfold soft
  rw [hsum]
  unfold probs k2_pay5 k2_pay3 k2_pay4 k2_pay2
  simp only [pointwise, at_row, at_col, reduceDIte, show ¬ (256 = 1) from by decide]
  simp only [Matrix.cons_val_zero, Matrix.cons_val_one, zero_add, Fin.eta, Words.row, Words.last, mask_bot,
    Words.ofBits_bot]
  rw [Words.seen ht]
  simp (disch := omega) only [Words.select_sees]
  rfl

/-- A head's output. -/
theorem headO_apply (i : grid2.Coords) (q : Vec Ideal S256x1x192 .f32) (k : Vec Ideal S1x256x192 .f32)
    (v : Vec Ideal S1x256x128 .f32) (r : Fin 256) (d : Fin 128) :
    headO i q k v (ix2 r d) = ∑ c : Fin 256, probs i q k (ix2 r c) * v (ix3 0 c d) := by
  unfold headO k2_pay7 k2_pay6
  simp only [pointwise]
  rw [zero_add]

/-- The scores before any is chosen. -/
theorem score_apply (i : grid2.Coords) (p : FVec Ideal S256x256 .f32) (x3 : Vec Ideal S256x64 .f32) (r : Fin 256) (j : Fin 64) :
    score i p x3 (ix2 r j)
      = Spec.rate (((i 0).val * 256 + r.val) / 64) (∑ c : Fin 256, p (ix2 r c) * x3 (ix2 c j)) j := by
  have hi : (i 0).val < 16 := (i 0).isLt
  have ht : (i 0).val * 256 + r.val < 4096 := by omega
  unfold score k2_pay61 k2_pay60 k2_pay59 k2_pay58 Spec.rate
  simp only [pointwise, at_row, at_col]
  rw [Words.row, Words.block ht, zero_add]

/-- The least of some words: the word that none lies below. -/
theorem fold_minsi {ι : Type} (s : Finset ι) (f : ι → BitVec 32) (b v : BitVec 32) (hb : v.toInt ≤ b.toInt)
    (hf : ∀ k ∈ s, v.toInt ≤ (f k).toInt) (hv : ∃ k ∈ s, f k = v) : s.fold IntOp.minsi b f = v := by
  classical
  have hmin : ∀ x y : BitVec 32, (IntOp.minsi x y).toInt = min x.toInt y.toInt := by
    intro x y
    unfold IntOp.minsi
    rw [BitVec.slt]
    by_cases h : x.toInt < y.toInt
    · rw [if_pos (decide_eq_true h), min_eq_left h.le]
    · rw [if_neg (by simpa using h), min_eq_right (not_lt.1 h)]
  have h1 : ∀ s : Finset ι, (∀ k ∈ s, v.toInt ≤ (f k).toInt) → v.toInt ≤ (s.fold IntOp.minsi b f).toInt := by
    intro s
    induction s using Finset.induction with
    | empty => exact fun _ => hb
    | insert a s ha ih =>
      intro h
      rw [Finset.fold_insert ha, hmin]
      exact le_min (h a (Finset.mem_insert_self a s)) (ih fun k hk => h k (Finset.mem_insert_of_mem hk))
  have h2 : ∀ s : Finset ι, ∀ k ∈ s, (s.fold IntOp.minsi b f).toInt ≤ (f k).toInt := by
    intro s
    induction s using Finset.induction with
    | empty => intro k hk; exact absurd hk (Finset.notMem_empty k)
    | insert a s ha ih =>
      intro k hk
      rw [Finset.fold_insert ha, hmin]
      rcases Finset.mem_insert.1 hk with rfl | hk
      · exact min_le_left _ _
      · exact (min_le_right _ _).trans (ih k hk)
  obtain ⟨k, hk, hkv⟩ := hv
  exact BitVec.eq_of_toInt_eq (le_antisymm (hkv ▸ h2 s k hk) (h1 s hf))

/-- A row's position of its largest entry. -/
theorem pick_apply (s : FVec Ideal S256x64 .f32) (r : Fin 256) (i : Fin 64)
    (h : Topk.IsPick (fun j => s (ix2 r j)) i) : pick s (ix1 r) = BitVec.ofNat 32 i.val := by
  have htop : Finset.univ.fold max ⊥ (fun j : Fin 64 => s (ix2 r j)) = s (ix2 r i) :=
    le_antisymm (Finset.sup_le (f := fun j : Fin 64 => s (ix2 r j)) fun j _ => h.1 j)
      (Finset.le_sup (f := fun j : Fin 64 => s (ix2 r j)) (Finset.mem_univ i))
  have hw : ∀ k : ℕ, k ≤ 64 → (BitVec.ofNat 32 k).toInt = k := fun k hk => WordCmp.toInt_ofNat_of_lt (by omega)
  unfold pick
  simp only [pointwise, at_col, reduceDIte, show ¬ (256 = 1) from by decide, Words.ofBits_bot]
  rw [htop]
  refine fold_minsi _ _ _ _ ?_ (fun k _ => ?_) ⟨i, Finset.mem_univ i, if_pos rfl⟩
  · rw [hw _ (by omega)]
    have : (2147483647#32 : BitVec 32).toInt = 2147483647 := by decide
    rw [this]; omega
  · rw [hw _ (by omega)]
    split
    · rename_i he
      rw [hw _ (by omega)]
      by_contra hlt
      exact absurd he (h.2 k (by rw [Fin.lt_def]; omega)).ne
    · rw [show (64#32 : BitVec 32) = BitVec.ofNat 32 64 from rfl, hw _ (by omega)]; omega

theorem ofNat_eq {a b : ℕ} (ha : a < 2 ^ 32) (hb : b < 2 ^ 32) :
    IntOp.cmpi .eq (BitVec.ofNat 32 a) (BitVec.ofNat 32 b) = BitVec.ofBool (decide (a = b)) :=
  WordCmp.cmpi_eq_ofNat ha hb

theorem drop_apply (s : FVec Ideal S256x64 .f32) (p : IVec S256 32) (r : Fin 256) (j i : Fin 64)
    (hp : p (ix1 r) = BitVec.ofNat 32 i.val) : drop s p (ix2 r j) = Topk.strike (fun j => s (ix2 r j)) i j := by
  unfold drop Topk.strike
  simp only [pointwise, at_col, reduceDIte, show ¬ (256 = 1) from by decide, Words.ofBits_bot]
  rw [hp, ofNat_eq (by omega) (by omega), Words.select_ofBool]
  exact if_congr Fin.ext_iff.symm rfl rfl

theorem put_apply (n : ℕ) (hn : n < 16) (p : IVec S256 32) (a : IVec S256x16 32) (r : Fin 256) (c : Fin 16) :
    put (BitVec.ofNat 32 n) p a (ix2 r c) = if c.val = n then p (ix1 r) else a (ix2 r c) := by
  unfold put
  simp only [pointwise, at_col, reduceDIte, show ¬ (256 = 1) from by decide]
  rw [ofNat_eq (by omega) (by omega), Words.select_ofBool]

/-- After `n` picks the scores are those with the `n` best struck out. -/
theorem left_apply (s : FVec Ideal S256x64 .f32) (r : Fin 256) (hs : ∀ j, s (ix2 r j) ≠ ⊥) (n : ℕ) (hn : n ≤ 64) :
    (fun j => left s n (ix2 r j)) = Topk.after (fun j => s (ix2 r j)) n := by
  induction n with
  | zero => rw [Topk.after_zero]; rfl
  | succ n ih =>
    have ih := ih (by omega)
    have hp := Topk.isPick_after (fun j => s (ix2 r j)) hs ⟨n, by omega⟩
    rw [← ih] at hp
    rw [Topk.after_succ _ ⟨n, by omega⟩, ← ih]
    funext j
    exact drop_apply _ _ r j _ (pick_apply _ r _ hp)

/-- The table of positions holds the best blocks in order. -/
theorem table_apply (s : FVec Ideal S256x64 .f32) (r : Fin 256) (hs : ∀ j, s (ix2 r j) ≠ ⊥) (n : ℕ) (hn : n ≤ 16)
    (c : Fin 16) (hc : c.val < n) :
    table s n (ix2 r c)
      = BitVec.ofNat 32 (sortedFrom (Topk.greater (fun j => s (ix2 r j))) ⟨c.val, by omega⟩).val := by
  induction n with
  | zero => omega
  | succ n ih =>
    show put (BitVec.ofNat 32 n) (pick (left s n)) (table s n) (ix2 r c) = _
    rw [put_apply n (by omega)]
    by_cases h : c.val = n
    · subst h
      rw [if_pos rfl]
      have hp := Topk.isPick_after (fun j => s (ix2 r j)) hs ⟨c.val, by omega⟩
      rw [← left_apply s r hs c.val (by omega)] at hp
      exact pick_apply _ r _ hp
    · rw [if_neg h]
      exact ih (by omega) (by omega)

end Cert.KernelIdeal.Attn

end
-- ==== Proof.KernelIdeal.AttnValue.lean ====
/-
What the attention call writes, in terms of the arguments.
-/
module

public import proofs.«01_k».proof.Proof.KernelIdeal.AttnPoint
public import Idealize.ShloMosaic.Lib.Pipeline.ValueKit.Tiles

@[expose] public section

set_option maxRecDepth 16384

noncomputable section

namespace Cert.KernelIdeal.Attn

open Cert.KernelIdeal.Gen
open Idealize.ShloMosaic Cert.Softmax

section

variable (x0 : Vec Ideal S256x16x192 .f32) (x1 : Vec Ideal S16x256x192 .f32) (x2 : Vec Ideal S16x256x128 .f32)
  (x3 : Vec Ideal S256x64 .f32) (i : grid2.Coords)

theorem ld_q (h : ℕ) (hh : h < 16) (hin) (r : Fin 256) (d : Fin 192) :
    View.ld x0 (Rect.unit (s := S256x16x192) ![0, h, 0] S256x1x192.size hin) (ix3 r 0 d) = x0 (ix3 r ⟨h, hh⟩ d) := by
  refine congrArg x0 (funext fun b => Fin.ext ?_)
  fin_cases b
  · show 0 + 1 * r.val = r.val; omega
  · show h + 1 * 0 = h; omega
  · show 0 + 1 * d.val = d.val; omega

theorem ld_k (h : ℕ) (hh : h < 16) (hin) (c : Fin 256) (d : Fin 192) :
    View.ld x1 (Rect.unit (s := S16x256x192) ![h, 0, 0] S1x256x192.size hin) (ix3 0 c d) = x1 (ix3 ⟨h, hh⟩ c d) := by
  refine congrArg x1 (funext fun b => Fin.ext ?_)
  fin_cases b
  · show h + 1 * 0 = h; omega
  · show 0 + 1 * c.val = c.val; omega
  · show 0 + 1 * d.val = d.val; omega

theorem ld_v (h : ℕ) (hh : h < 16) (hin) (c : Fin 256) (d : Fin 128) :
    View.ld x2 (Rect.unit (s := S16x256x128) ![h, 0, 0] S1x256x128.size hin) (ix3 0 c d) = x2 (ix3 ⟨h, hh⟩ c d) := by
  refine congrArg x2 (funext fun b => Fin.ext ?_)
  fin_cases b
  · show h + 1 * 0 = h; omega
  · show 0 + 1 * c.val = c.val; omega
  · show 0 + 1 * d.val = d.val; omega

theorem ld_ov (hin) (c : Fin 256) (j : Fin 64) :
    View.ld x3 (Rect.unit (s := S256x64) ![0, 0] S256x64.size hin) (ix2 c j) = x3 (ix2 c j) := by
  refine congrArg x3 (funext fun b => Fin.ext ?_)
  fin_cases b
  · show 0 + 1 * c.val = c.val; omega
  · show 0 + 1 * j.val = j.val; omega

/-- A row's logits for head `h`. -/
def row (h : Fin 16) (r : Fin 256) (c : Fin 256) : EReal :=
  (∑ d : Fin 192, x0 (ix3 r h d) * x1 (ix3 h c d)) * Ideal.ofBits .f32 0x3D93CD3A#32

/-- The weights of head `h`. -/
def share (h : Fin 16) (r : Fin 256) (c : Fin 256) : EReal := soft (row x0 x1 h r) ((i 0).val * 256 + r.val) c

theorem head_probs (h : ℕ) (hh : h < 16) (hin hin') (r c : Fin 256) :
    probs i (View.ld x0 (Rect.unit (s := S256x16x192) ![0, h, 0] S256x1x192.size hin))
      (View.ld x1 (Rect.unit (s := S16x256x192) ![h, 0, 0] S1x256x192.size hin')) (ix2 r c)
      = share x0 x1 i ⟨h, hh⟩ r c := by
  rw [probs_apply]
  unfold share
  refine congrArg (fun l => soft l ((i 0).val * 256 + r.val) c) (funext fun c => ?_)
  unfold logits row
  simp only [ld_q x0 h hh, ld_k x1 h hh]

theorem sum_heads (f : Fin 16 → EReal) : ∑ h, f h
    = (((f 0 + f 1) + (f 2 + f 3)) + ((f 4 + f 5) + (f 6 + f 7)))
      + (((f 8 + f 9) + (f 10 + f 11)) + ((f 12 + f 13) + (f 14 + f 15))) := by
  rw [Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_eight]
  simp only [← add_assoc]
  rfl

theorem psum_apply (r c : Fin 256) : psum i x0 x1 (ix2 r c) = ∑ h : Fin 16, share x0 x1 i h r c := by
  rw [sum_heads]
  have H := fun h hh hin hin' => head_probs x0 x1 i h hh hin hin' r c
  unfold psum
  exact congrArg₂ (· + ·)
    (congrArg₂ (· + ·)
      (congrArg₂ (· + ·) (congrArg₂ (· + ·) (H 0 (by omega) _ _) (H 1 (by omega) _ _))
        (congrArg₂ (· + ·) (H 2 (by omega) _ _) (H 3 (by omega) _ _)))
      (congrArg₂ (· + ·) (congrArg₂ (· + ·) (H 4 (by omega) _ _) (H 5 (by omega) _ _))
        (congrArg₂ (· + ·) (H 6 (by omega) _ _) (H 7 (by omega) _ _))))
    (congrArg₂ (· + ·)
      (congrArg₂ (· + ·) (congrArg₂ (· + ·) (H 8 (by omega) _ _) (H 9 (by omega) _ _))
        (congrArg₂ (· + ·) (H 10 (by omega) _ _) (H 11 (by omega) _ _)))
      (congrArg₂ (· + ·) (congrArg₂ (· + ·) (H 12 (by omega) _ _) (H 13 (by omega) _ _))
        (congrArg₂ (· + ·) (H 14 (by omega) _ _) (H 15 (by omega) _ _))))

/-- An output's entry: its head's weights against that head's values. -/
def mixed (r : Fin 256) (j : Fin 2048) : EReal :=
  ∑ c : Fin 256, share x0 x1 i ⟨j.val / 128, by omega⟩ r c
    * x2 (ix3 ⟨j.val / 128, by omega⟩ c ⟨j.val % 128, by omega⟩)

theorem head_tile (h : ℕ) (hh : h < 16) (hin hin' hin'') (r : Fin 256) (j : Fin 2048) :
    View.TileAt (Val := Elt Ideal) (e := .f32) (S := S256x2048) (ix2 r j) ![0, 128 * h] S256x128.size
      (headO i (View.ld x0 (Rect.unit (s := S256x16x192) ![0, h, 0] S256x1x192.size hin))
        (View.ld x1 (Rect.unit (s := S16x256x192) ![h, 0, 0] S1x256x192.size hin'))
        (View.ld x2 (Rect.unit (s := S16x256x128) ![h, 0, 0] S1x256x128.size hin'')))
      (mixed x0 x1 x2 i r j) := by
  intro x hx
  have h0 : r.val = 0 + (x 0).val := hx 0
  have h1 : j.val = 128 * h + (x 1).val := hx 1
  have hl : (x 1).val < 128 := (x 1).isLt
  obtain ⟨a, b, rfl⟩ : ∃ (a : Fin 256) (b : Fin 128), x = ix2 a b := ⟨x 0, x 1, eq_ix2 x⟩
  replace h0 : r.val = 0 + a.val := h0
  replace h1 : j.val = 128 * h + b.val := h1
  obtain rfl : r = a := Fin.ext (by omega)
  rw [headO_apply]
  unfold mixed
  refine Finset.sum_congr rfl fun c _ => ?_
  rw [head_probs x0 x1 i h hh, ld_v x2 h hh]
  have e1 : (⟨j.val / 128, by omega⟩ : Fin 16) = ⟨h, hh⟩ := Fin.ext (by show j.val / 128 = h; omega)
  have e2 : (⟨j.val % 128, by omega⟩ : Fin 128) = b := Fin.ext (by show j.val % 128 = b.val; omega)
  rw [e1, e2]

theorem out2_4_apply (r : Fin 256) (j : Fin 2048) : out2_4 i x0 x1 x2 x3 (ix2 r j) = mixed x0 x1 x2 i r j := by
  have H := fun h hh hin hin' hin'' => head_tile x0 x1 x2 i h hh hin hin' hin'' r j
  unfold out2_4
  refine View.canon_eq_of_allAt _ _ _ (cover2_4 ..) ?_
  refine View.allAt_cons_unit _ _ _ _ _ (H 15 (by omega) _ _ _) ?_
  refine View.allAt_cons_unit _ _ _ _ _ (H 14 (by omega) _ _ _) ?_
  refine View.allAt_cons_unit _ _ _ _ _ (H 13 (by omega) _ _ _) ?_
  refine View.allAt_cons_unit _ _ _ _ _ (H 12 (by omega) _ _ _) ?_
  refine View.allAt_cons_unit _ _ _ _ _ (H 11 (by omega) _ _ _) ?_
  refine View.allAt_cons_unit _ _ _ _ _ (H 10 (by omega) _ _ _) ?_
  refine View.allAt_cons_unit _ _ _ _ _ (H 9 (by omega) _ _ _) ?_
  refine View.allAt_cons_unit _ _ _ _ _ (H 8 (by omega) _ _ _) ?_
  refine View.allAt_cons_unit _ _ _ _ _ (H 7 (by omega) _ _ _) ?_
  refine View.allAt_cons_unit _ _ _ _ _ (H 6 (by omega) _ _ _) ?_
  refine View.allAt_cons_unit _ _ _ _ _ (H 5 (by omega) _ _ _) ?_
  refine View.allAt_cons_unit _ _ _ _ _ (H 4 (by omega) _ _ _) ?_
  refine View.allAt_cons_unit _ _ _ _ _ (H 3 (by omega) _ _ _) ?_
  refine View.allAt_cons_unit _ _ _ _ _ (H 2 (by omega) _ _ _) ?_
  refine View.allAt_cons_unit _ _ _ _ _ (H 1 (by omega) _ _ _) ?_
  refine View.allAt_cons_unit _ _ _ _ _ (H 0 (by omega) _ _ _) ?_
  exact View.allAt_nil _ _

theorem out2_5_apply (r : Fin 256) (j : Fin 16) :
    out2_5 i x0 x1 x2 x3 (ix2 r j) = table (score i (psum i x0 x1) (View.ld x3 r2_64)) 16 (ix2 r j) := by
  unfold out2_5
  refine View.canon_eq_of_allAt _ _ _ (cover2_5 ..) ?_
  refine View.allAt_cons_unit _ _ _ _ _ (fun x hx => ?_) (View.allAt_nil _ _)
  refine congrArg (table (score i (psum i x0 x1) (View.ld x3 r2_64)) 16) (funext fun b => Fin.ext ?_)
  have := hx b
  fin_cases b
  · have h : r.val = 0 + (x 0).val := this
    show (x 0).val = r.val; omega
  · have h : j.val = 0 + (x 1).val := this
    show (x 1).val = j.val; omega

end

section

variable {a : Spec.Args} (ha : a.Real) {x0 : Vec Ideal S256x16x192 .f32} {x1 : Vec Ideal S16x256x192 .f32}
  {x2 : Vec Ideal S16x256x128 .f32} {x3 : Vec Ideal S256x64 .f32} {i : grid2.Coords} {r : Fin 256} {t : Fin 4096}
  (ht : t.val = (i 0).val * 256 + r.val)
  (hq : ∀ h d, x0 (ix3 r h d) = a.q (ix3 t h d))
  (hk : ∀ h (n : Fin 255) d, x1 (ix3 h n.castSucc d) = Spec.key a h n d)
  (hv : ∀ h (n : Fin 255) d, x2 (ix3 h n.castSucc d) = Spec.val a h n d)
  (ho : ∀ (n : Fin 255) j, x3 (ix2 n.castSucc j) = a.ov n j)

include hq hk in
theorem row_castSucc (h : Fin 16) (n : Fin 255) : row x0 x1 h r n.castSucc = Spec.logit a t h n := by
  unfold row Spec.logit
  simp only [hq, hk]

include ht hq hk in
/-- The last row is never seen, so the others have the weights they have without it. -/
theorem share_castSucc (h : Fin 16) (n : Fin 255) : share x0 x1 i h r n.castSucc = Spec.prob a t h n := by
  have e : (fun n : Fin 255 => row x0 x1 h r n.castSucc) = Spec.logit a t h := funext (row_castSucc hq hk h)
  unfold share Spec.prob
  rw [← ht, ← e]
  exact soft_castSucc (N := 254) (row x0 x1 h r) (by omega) n

include ha ht hq hk in
/-- The last row has no weight. -/
theorem share_last (h : Fin 16) : share x0 x1 i h r (Fin.last 255) = 0 := by
  unfold share
  rw [← ht]
  exact soft_last (N := 254) (row x0 x1 h r) (by omega) fun n => by
    rw [row_castSucc hq hk h n]; exact Spec.logit_real ha t h n

include ha ht hq hk hv in
/-- The attention output of a token. -/
theorem mixed_eq (j : Fin 2048) :
    mixed x0 x1 x2 i r j = Spec.out a t ⟨j.val / 128, by omega⟩ ⟨j.val % 128, by omega⟩ := by
  unfold mixed Spec.out
  rw [Fin.sum_univ_castSucc (n := 255), share_last ha ht hq hk, zero_mul, add_zero]
  refine Finset.sum_congr rfl fun n _ => ?_
  rw [share_castSucc ht hq hk, hv]

include ha ht hq hk ho in
theorem score_eq (j : Fin 64) :
    score i (psum i x0 x1) (View.ld x3 r2_64) (ix2 r j) = Spec.score a t j := by
  rw [score_apply, ← ht]
  unfold Spec.score
  refine congrArg (fun s => Spec.rate (t.val / 64) s j) ?_
  unfold Spec.pooled
  rw [Fin.sum_univ_castSucc (n := 255), psum_apply]
  rw [Finset.sum_eq_zero (fun h _ => share_last ha ht hq hk h), zero_mul, add_zero]
  refine Finset.sum_congr rfl fun n _ => ?_
  rw [psum_apply, ld_ov, ho]
  exact congrArg (· * a.ov n j) (Finset.sum_congr rfl fun h _ => share_castSucc ht hq hk h n)

include ha ht hq hk ho in
/-- The table of positions of a token. -/
theorem table_eq (j : Fin 16) :
    out2_5 i x0 x1 x2 x3 (ix2 r j) = BitVec.ofNat 32 (Spec.best a t ⟨j.val, by omega⟩).val := by
  have e : (fun j => score i (psum i x0 x1) (View.ld x3 r2_64) (ix2 r j)) = Spec.score a t :=
    funext (score_eq ha ht hq hk ho)
  rw [out2_5_apply, table_apply _ r (fun j => by rw [congrFun e j]; exact Spec.score_ne_bot ha t j) 16 (le_refl _) j j.isLt, e]
  rfl

include ha ht hq hk hv in
theorem out_eq (j : Fin 2048) :
    out2_4 i x0 x1 x2 x3 (ix2 r j) = Spec.out a t ⟨j.val / 128, by omega⟩ ⟨j.val % 128, by omega⟩ := by
  rw [out2_4_apply, mixed_eq ha ht hq hk hv]

end

end Cert.KernelIdeal.Attn

end
-- ==== Proof.KernelIdeal.KvbValue.lean ====
/-
What the call that expands the compressed rows writes: each head's keys and values.
-/
module

public import proofs.«01_k».proof.Proof.KernelIdeal.Kvb
public import proofs.«01_k».proof.Proof.Spec
public import Idealize.ShloMosaic.Lib.Pipeline.ValueKit.Tiles

@[expose] public section

set_option maxRecDepth 16384

noncomputable section

namespace Cert.KernelIdeal.Kvb

open Cert.KernelIdeal.Gen
open Idealize.ShloMosaic

theorem proj_apply (x0 : Vec Ideal S256x512 .f32) (x2 : Vec Ideal S512x4096 .f32) (n : Fin 256) (j : Fin 4096) :
    proj x0 x2 (ix2 n j) = ∑ l : Fin 512, x0 (ix2 n l) * x2 (ix2 l j) := by
  unfold proj k1_pay7
  simp only [pointwise]
  rw [zero_add]

theorem keys_apply (o : ℕ) (hs) (p : FVec Ideal S256x4096 .f32) (x1 : FVec Ideal S256x64 .f32) (n : Fin 256) (d : Fin 192)
    (ho : o + 128 ≤ 4096) :
    keys ![0, o] hs p x1 (ix3 0 n d)
      = if h : d.val < 128 then p (ix2 n ⟨o + d.val, by omega⟩) else x1 (ix2 n ⟨d.val - 128, by omega⟩) := by
  unfold keys k1_pay8
  simp only [pointwise]
  split
  · refine congrArg p ?_
    congr 1
    exact Fin.ext (by simp)
  · refine congrArg x1 ?_
    congr 1

theorem vals_apply (o : ℕ) (hs) (p : FVec Ideal S256x4096 .f32) (n : Fin 256) (d : Fin 128) (ho : o + 128 ≤ 4096) :
    vals ![0, o] hs p (ix3 0 n d) = p (ix2 n ⟨o + d.val, by omega⟩) := by
  unfold vals
  simp only [pointwise]
  refine congrArg p ?_
  congr 1
  exact Fin.ext (by simp)

theorem ld_0 (x : Vec Ideal S256x512 .f32) : View.ld x r1_0 = x :=
  funext fun y => congrArg x (funext fun b => Fin.ext (by
    fin_cases b
    · show 0 + 1 * (y 0).val = (y 0).val; omega
    · show 0 + 1 * (y 1).val = (y 1).val; omega))

theorem ld_1 (x : Vec Ideal S512x4096 .f32) : View.ld x r1_1 = x :=
  funext fun y => congrArg x (funext fun b => Fin.ext (by
    fin_cases b
    · show 0 + 1 * (y 0).val = (y 0).val; omega
    · show 0 + 1 * (y 1).val = (y 1).val; omega))

theorem ld_2 (x : Vec Ideal S256x64 .f32) : View.ld x r1_2 = x :=
  funext fun y => congrArg x (funext fun b => Fin.ext (by
    fin_cases b
    · show 0 + 1 * (y 0).val = (y 0).val; omega
    · show 0 + 1 * (y 1).val = (y 1).val; omega))

variable (p : FVec Ideal S256x4096 .f32) (x1 : FVec Ideal S256x64 .f32)

/-- Head `h`'s key of row `n`: its columns of the projection, then the position part. -/
def keyOf (h : Fin 16) (n : Fin 256) (d : Fin 192) : EReal :=
  if _h : d.val < 128 then p (ix2 n ⟨h.val * 256 + d.val, by omega⟩) else x1 (ix2 n ⟨d.val - 128, by omega⟩)

/-- Head `h`'s value of row `n`. -/
def valOf (h : Fin 16) (n : Fin 256) (d : Fin 128) : EReal := p (ix2 n ⟨h.val * 256 + (128 + d.val), by omega⟩)

theorem key_tile (g : ℕ) (hg : g < 16) (hs) (h : Fin 16) (n : Fin 256) (d : Fin 192) :
    View.TileAt (Val := Elt Ideal) (e := .f32) (S := S16x256x192) (ix3 h n d) ![g, 0, 0] S1x256x192.size
      (keys ![0, 256 * g] hs p x1) (keyOf p x1 h n d) := by
  intro x hx
  obtain ⟨a, b, e, rfl⟩ : ∃ (a : Fin 1) (b : Fin 256) (e : Fin 192), x = ix3 a b e := ⟨x 0, x 1, x 2, eq_ix3 x⟩
  have h0 : h.val = g + a.val := hx 0
  have h1 : n.val = 0 + b.val := hx 1
  have h2 : d.val = 0 + e.val := hx 2
  obtain rfl : a = 0 := Subsingleton.elim _ _
  obtain rfl : n = b := Fin.ext (by omega)
  obtain rfl : d = e := Fin.ext (by omega)
  have hgh : h.val = g := h0
  rw [keys_apply _ _ _ _ _ _ (by omega)]
  unfold keyOf
  split
  · refine congrArg p ?_
    congr 1
    exact Fin.ext (by show 256 * g + d.val = h.val * 256 + d.val; omega)
  · rfl

theorem val_tile (g : ℕ) (hg : g < 16) (hs) (h : Fin 16) (n : Fin 256) (d : Fin 128) :
    View.TileAt (Val := Elt Ideal) (e := .f32) (S := S16x256x128) (ix3 h n d) ![g, 0, 0] S1x256x128.size
      (vals ![0, 256 * g + 128] hs p) (valOf p h n d) := by
  intro x hx
  obtain ⟨a, b, e, rfl⟩ : ∃ (a : Fin 1) (b : Fin 256) (e : Fin 128), x = ix3 a b e := ⟨x 0, x 1, x 2, eq_ix3 x⟩
  have h0 : h.val = g + a.val := hx 0
  have h1 : n.val = 0 + b.val := hx 1
  have h2 : d.val = 0 + e.val := hx 2
  obtain rfl : a = 0 := Subsingleton.elim _ _
  obtain rfl : n = b := Fin.ext (by omega)
  obtain rfl : d = e := Fin.ext (by omega)
  have hgh : h.val = g := h0
  rw [vals_apply _ _ _ _ _ (by omega)]
  unfold valOf
  refine congrArg p ?_
  congr 1
  exact Fin.ext (by show 256 * g + 128 + d.val = h.val * 256 + (128 + d.val); omega)

variable (x0 : Vec Ideal S256x512 .f32) (x2 : Vec Ideal S512x4096 .f32)

theorem out1_3_apply (h : Fin 16) (n : Fin 256) (d : Fin 192) :
    out1_3 x0 x1 x2 (ix3 h n d) = keyOf (proj x0 x2) x1 h n d := by
  have H := fun g hg hs => key_tile (proj x0 x2) x1 g hg hs h n d
  unfold out1_3
  rw [ld_0, ld_1, ld_2]
  refine View.canon_eq_of_allAt _ _ _ (cover1_3 ..) ?_
  refine View.allAt_cons_unit _ _ _ _ _ (H 15 (by omega) _) ?_
  refine View.allAt_cons_unit _ _ _ _ _ (H 14 (by omega) _) ?_
  refine View.allAt_cons_unit _ _ _ _ _ (H 13 (by omega) _) ?_
  refine View.allAt_cons_unit _ _ _ _ _ (H 12 (by omega) _) ?_
  refine View.allAt_cons_unit _ _ _ _ _ (H 11 (by omega) _) ?_
  refine View.allAt_cons_unit _ _ _ _ _ (H 10 (by omega) _) ?_
  refine View.allAt_cons_unit _ _ _ _ _ (H 9 (by omega) _) ?_
  refine View.allAt_cons_unit _ _ _ _ _ (H 8 (by omega) _) ?_
  refine View.allAt_cons_unit _ _ _ _ _ (H 7 (by omega) _) ?_
  refine View.allAt_cons_unit _ _ _ _ _ (H 6 (by omega) _) ?_
  refine View.allAt_cons_unit _ _ _ _ _ (H 5 (by omega) _) ?_
  refine View.allAt_cons_unit _ _ _ _ _ (H 4 (by omega) _) ?_
  refine View.allAt_cons_unit _ _ _ _ _ (H 3 (by omega) _) ?_
  refine View.allAt_cons_unit _ _ _ _ _ (H 2 (by omega) _) ?_
  refine View.allAt_cons_unit _ _ _ _ _ (H 1 (by omega) _) ?_
  refine View.allAt_cons_unit _ _ _ _ _ (H 0 (by omega) _) ?_
  exact View.allAt_nil _ _

theorem out1_4_apply (h : Fin 16) (n : Fin 256) (d : Fin 128) :
    out1_4 x0 x1 x2 (ix3 h n d) = valOf (proj x0 x2) h n d := by
  have H := fun g hg hs => val_tile (proj x0 x2) g hg hs h n d
  unfold out1_4
  rw [ld_0, ld_1]
  refine View.canon_eq_of_allAt _ _ _ (cover1_4 ..) ?_
  refine View.allAt_cons_unit _ _ _ _ _ (H 15 (by omega) _) ?_
  refine View.allAt_cons_unit _ _ _ _ _ (H 14 (by omega) _) ?_
  refine View.allAt_cons_unit _ _ _ _ _ (H 13 (by omega) _) ?_
  refine View.allAt_cons_unit _ _ _ _ _ (H 12 (by omega) _) ?_
  refine View.allAt_cons_unit _ _ _ _ _ (H 11 (by omega) _) ?_
  refine View.allAt_cons_unit _ _ _ _ _ (H 10 (by omega) _) ?_
  refine View.allAt_cons_unit _ _ _ _ _ (H 9 (by omega) _) ?_
  refine View.allAt_cons_unit _ _ _ _ _ (H 8 (by omega) _) ?_
  refine View.allAt_cons_unit _ _ _ _ _ (H 7 (by omega) _) ?_
  refine View.allAt_cons_unit _ _ _ _ _ (H 6 (by omega) _) ?_
  refine View.allAt_cons_unit _ _ _ _ _ (H 5 (by omega) _) ?_
  refine View.allAt_cons_unit _ _ _ _ _ (H 4 (by omega) _) ?_
  refine View.allAt_cons_unit _ _ _ _ _ (H 3 (by omega) _) ?_
  refine View.allAt_cons_unit _ _ _ _ _ (H 2 (by omega) _) ?_
  refine View.allAt_cons_unit _ _ _ _ _ (H 1 (by omega) _) ?_
  refine View.allAt_cons_unit _ _ _ _ _ (H 0 (by omega) _) ?_
  exact View.allAt_nil _ _

variable {x0 x1 x2} {a : Spec.Args} (h0 : ∀ (n : Fin 255) l, x0 (ix2 n.castSucc l) = Spec.comp a n l)
  (h1 : ∀ (n : Fin 255) d, x1 (ix2 n.castSucc d) = Spec.pos a n d) (h2 : x2 = a.wb)

include h0 h2 in
theorem proj_eq (n : Fin 255) (j : Fin 4096) : proj x0 x2 (ix2 n.castSucc j) = Spec.proj a n j := by
  rw [proj_apply]
  unfold Spec.proj
  simp only [h0, h2]

include h0 h1 h2 in
theorem key_eq (h : Fin 16) (n : Fin 255) (d : Fin 192) :
    out1_3 x0 x1 x2 (ix3 h n.castSucc d) = Spec.key a h n d := by
  rw [out1_3_apply]
  unfold keyOf Spec.key
  split
  · exact proj_eq h0 h2 n _
  · exact h1 n _

include h0 h2 in
theorem val_eq (h : Fin 16) (n : Fin 255) (d : Fin 128) :
    out1_4 x0 x1 x2 (ix3 h n.castSucc d) = Spec.val a h n d := by
  rw [out1_4_apply]
  exact proj_eq h0 h2 n _

end Cert.KernelIdeal.Kvb

end
-- ==== Proof.KernelIdeal.CompressValue.lean ====
/-
What the call that compresses the windows writes.
-/
module

public import proofs.«01_k».proof.Proof.KernelIdeal.Compress
public import proofs.«01_k».proof.Proof.Spec

@[expose] public section

set_option maxRecDepth 16384

noncomputable section

namespace Cert.KernelIdeal.Compress

open Cert.KernelIdeal.Gen
open Idealize.ShloMosaic

theorem zero_at {N : ℕ} (k : ℕ) (hk : k < N) (h) : (⟨0 + 1 * k, h⟩ : Fin N) = ⟨k, hk⟩ := Fin.ext (by simp)

theorem step_apply (a : Vec Ideal S256x512 .f32) (x0 : Vec Ideal S256x8192 .f32) (x2 : Vec Ideal S8192x512 .f32)
    (n : Fin 256) (l : Fin 512) :
    step a x0 x2 (ix2 n l) = a (ix2 n l) + ∑ k : Fin 8192, x0 (ix2 n k) * x2 (ix2 k l) := by
  unfold step k0_pay3
  simp only [pointwise, Matrix.cons_val_zero, Matrix.cons_val_one, zero_at, Fin.is_lt, Fin.eta, zero_add, one_mul]

theorem pos_apply (x1 : Vec Ideal S256x2048 .f32) (x3 : Vec Ideal S2048x64 .f32) (n : Fin 256) (d : Fin 64) :
    pos x1 x3 (ix2 n d) = ∑ k : Fin 2048, x1 (ix2 n k) * x3 (ix2 k d) := by
  unfold pos k0_pay2
  simp only [pointwise, Matrix.cons_val_zero, Matrix.cons_val_one, Fin.eta, zero_add, one_mul]

theorem start_apply (n : Fin 256) (l : Fin 512) : k0_pay1 (F := Ideal) (ix2 n l) = 0 := by
  unfold k0_pay1
  simp only [pointwise]

/-- Two halves of the products are all of them. -/
theorem sum_halves (f : Fin 16384 → EReal) :
    (∑ k : Fin 8192, f ⟨k.val, by omega⟩) + ∑ k : Fin 8192, f ⟨8192 + k.val, by omega⟩ = ∑ j, f j :=
  (Fin.sum_univ_add (a := 8192) (b := 8192) f).symm

end Cert.KernelIdeal.Compress

end
-- ==== Proof.KernelIdeal.Calls.lean ====
/-
What each call leaves in its output arrays.
-/
module

public import proofs.«01_k».proof.Proof.KernelIdeal.AttnValue
public import proofs.«01_k».proof.Proof.KernelIdeal.KvbValue
public import proofs.«01_k».proof.Proof.KernelIdeal.CompressValue
public import Idealize.ShloMosaic.Lib.Pipeline.ValueKit

@[expose] public section

set_option maxRecDepth 16384

noncomputable section

namespace Cert.KernelIdeal

open Cert.KernelIdeal.Gen
open Idealize.ShloMosaic Idealize.ShloMosaic.TcCoe

variable (W : Dev nD → Valuation τ sig (Elt Ideal)) (c : Dev nD)

namespace Compress

theorem final4 : (dat W c).arrAt 4 cfg0.N = acc2 W c := by
  refine (dat W c).arrAt_eq_of_after_last 4 t1 (by decide +kernel) _ fun j => ?_
  blk_simp
  rw [after0_4]

theorem final5 : (dat W c).arrAt 5 cfg0.N = kpe W c := by
  refine (dat W c).arrAt_eq_of_after_last 5 t1 (by decide +kernel) _ fun j => ?_
  blk_simp
  rw [after0_5]

theorem index0_0 : ∀ t : Fin cfg0.N, win0_0.index t = ![0, t.val] :=
  (by decide +kernel : ∀ t : Fin grid0.N, win0_0.index t = ![0, t.val])
theorem index0_1 : ∀ t : Fin cfg0.N, win0_1.index t = ![0, 0] :=
  (by decide +kernel : ∀ t : Fin grid0.N, win0_1.index t = ![0, 0])
theorem index0_2 : ∀ t : Fin cfg0.N, win0_2.index t = ![t.val, 0] :=
  (by decide +kernel : ∀ t : Fin grid0.N, win0_2.index t = ![t.val, 0])
theorem index0_3 : ∀ t : Fin cfg0.N, win0_3.index t = ![0, 0] :=
  (by decide +kernel : ∀ t : Fin grid0.N, win0_3.index t = ![0, 0])

theorem two (t : Fin cfg0.N) : t.val < 2 := (show cfg0.N = 2 from N_0) ▸ t.isLt

theorem block0 (t : Fin cfg0.N) (n : Fin 256) (k : Fin 8192) :
    iblk W c 0 t (ix2 n k) = V W c main_v10 (ix2 n ⟨t.val * 8192 + k.val, by have := two t; omega⟩) := by
  blk_ext [iblk, V, index0_0 t]

theorem block2 (t : Fin cfg0.N) (k : Fin 8192) (l : Fin 512) :
    iblk W c 2 t (ix2 k l) = V W c main_arg2 (ix2 ⟨t.val * 8192 + k.val, by have := two t; omega⟩ l) := by
  blk_ext [iblk, V, index0_2 t]

theorem block1 (t : Fin cfg0.N) (n : Fin 256) (k : Fin 2048) : iblk W c 1 t (ix2 n k) = V W c main_v11 (ix2 n k) := by
  blk_ext [iblk, V, index0_1 t]

theorem block3 (t : Fin cfg0.N) (k : Fin 2048) (d : Fin 64) : iblk W c 3 t (ix2 k d) = V W c main_arg3 (ix2 k d) := by
  blk_ext [iblk, V, index0_3 t]

variable {W c}

/-- The compressed rows: the products of both halves. -/
theorem acc2_apply {x : FVec Ideal S256x16384 .f32} {w : FVec Ideal S16384x512 .f32} (hx : V W c main_v10 = x)
    (hw : V W c main_arg2 = w) (n : Fin 256) (l : Fin 512) :
    acc2 W c (ix2 n l) = ∑ j : Fin 16384, x (ix2 n j) * w (ix2 j l) := by
  unfold acc2 acc1
  rw [step_apply, step_apply, start_apply, zero_add, ← sum_halves fun j => x (ix2 n j) * w (ix2 j l)]
  refine congrArg₂ (· + ·) (Finset.sum_congr rfl fun k _ => ?_) (Finset.sum_congr rfl fun k _ => ?_)
  · rw [block0, block2, hx, hw]
    refine congrArg₂ (· * ·) (congrArg x ?_) (congrArg w ?_)
    · exact congrArg (ix2 n) (Fin.ext (by show 0 * 8192 + k.val = k.val; omega))
    · exact congrArg (ix2 · l) (Fin.ext (by show 0 * 8192 + k.val = k.val; omega))
  · rw [block0, block2, hx, hw]
    refine congrArg₂ (· * ·) (congrArg x ?_) (congrArg w ?_)
    · exact congrArg (ix2 n) (Fin.ext (by show 1 * 8192 + k.val = 8192 + k.val; omega))
    · exact congrArg (ix2 · l) (Fin.ext (by show 1 * 8192 + k.val = 8192 + k.val; omega))

/-- The compressed position parts. -/
theorem kpe_apply {x : FVec Ideal S256x2048 .f32} {w : FVec Ideal S2048x64 .f32} (hx : V W c main_v11 = x)
    (hw : V W c main_arg3 = w) (n : Fin 256) (d : Fin 64) :
    kpe W c (ix2 n d) = ∑ j : Fin 2048, x (ix2 n j) * w (ix2 j d) := by
  unfold kpe
  rw [pos_apply]
  exact Finset.sum_congr rfl fun k _ => by rw [block1, block3, hx, hw]

end Compress

namespace Kvb

theorem index1_0 : ∀ t : Fin cfg1.N, win1_0.index t = ![0, 0] :=
  (by decide +kernel : ∀ t : Fin grid1.N, win1_0.index t = ![0, 0])
theorem index1_1 : ∀ t : Fin cfg1.N, win1_1.index t = ![0, 0] :=
  (by decide +kernel : ∀ t : Fin grid1.N, win1_1.index t = ![0, 0])
theorem index1_2 : ∀ t : Fin cfg1.N, win1_2.index t = ![0, 0] :=
  (by decide +kernel : ∀ t : Fin grid1.N, win1_2.index t = ![0, 0])
theorem index1_3 : ∀ t : Fin cfg1.N, win1_3.index t = ![0, 0, 0] :=
  (by decide +kernel : ∀ t : Fin grid1.N, win1_3.index t = ![0, 0, 0])
theorem index1_4 : ∀ t : Fin cfg1.N, win1_4.index t = ![0, 0, 0] :=
  (by decide +kernel : ∀ t : Fin grid1.N, win1_4.index t = ![0, 0, 0])

theorem block0 (t : Fin cfg1.N) : iblk W c 0 t = V W c main_v12_0 := by
  funext y; blk_ext [iblk, V, index1_0 t]
theorem block1 (t : Fin cfg1.N) : iblk W c 1 t = V W c main_v12_1 := by
  funext y; blk_ext [iblk, V, index1_1 t]
theorem block2 (t : Fin cfg1.N) : iblk W c 2 t = V W c main_arg4 := by
  funext y; blk_ext [iblk, V, index1_2 t]

theorem final3 : (dat W c).arrAt 3 cfg1.N = out1_3 (V W c main_v12_0) (V W c main_v12_1) (V W c main_arg4) := by
  refine (dat W c).arrAt_eq_of_covers 3 _ (by decide +kernel) fun t hf y => ?_
  blk_simp
  rw [after1_3, block0, block1, block2]
  blk_ext [index1_3 t]

theorem final4 : (dat W c).arrAt 4 cfg1.N = out1_4 (V W c main_v12_0) (V W c main_v12_1) (V W c main_arg4) := by
  refine (dat W c).arrAt_eq_of_covers 4 _ (by decide +kernel) fun t hf y => ?_
  blk_simp
  rw [after1_4, block0, block1, block2]
  blk_ext [index1_4 t]

end Kvb

namespace Attn

theorem coord : ∀ t : Fin cfg2.N, ((grid2.coords t) 0).val = t.val :=
  (by decide +kernel : ∀ t : Fin grid2.N, ((grid2.coords t) 0).val = t.val)
theorem index2_0 : ∀ t : Fin cfg2.N, win2_0.index t = ![t.val, 0, 0] :=
  (by decide +kernel : ∀ t : Fin grid2.N, win2_0.index t = ![t.val, 0, 0])
theorem index2_1 : ∀ t : Fin cfg2.N, win2_1.index t = ![0, 0, 0] :=
  (by decide +kernel : ∀ t : Fin grid2.N, win2_1.index t = ![0, 0, 0])
theorem index2_2 : ∀ t : Fin cfg2.N, win2_2.index t = ![0, 0, 0] :=
  (by decide +kernel : ∀ t : Fin grid2.N, win2_2.index t = ![0, 0, 0])
theorem index2_3 : ∀ t : Fin cfg2.N, win2_3.index t = ![0, 0] :=
  (by decide +kernel : ∀ t : Fin grid2.N, win2_3.index t = ![0, 0])
theorem index2_4 : ∀ t : Fin cfg2.N, win2_4.index t = ![t.val, 0] :=
  (by decide +kernel : ∀ t : Fin grid2.N, win2_4.index t = ![t.val, 0])
theorem index2_5 : ∀ t : Fin cfg2.N, win2_5.index t = ![t.val, 0] :=
  (by decide +kernel : ∀ t : Fin grid2.N, win2_5.index t = ![t.val, 0])

theorem sixteen (t : Fin cfg2.N) : t.val < 16 := (show cfg2.N = 16 from N_2) ▸ t.isLt

theorem block0 (t : Fin cfg2.N) (r : Fin 256) (h : Fin 16) (d : Fin 192) :
    iblk W c 0 t (ix3 r h d) = V W c main_arg0 (ix3 ⟨t.val * 256 + r.val, by have := sixteen t; omega⟩ h d) := by
  blk_ext [iblk, V, index2_0 t]
theorem block1 (t : Fin cfg2.N) : iblk W c 1 t = V W c main_v13_0 := by
  funext y; blk_ext [iblk, V, index2_1 t]
theorem block2 (t : Fin cfg2.N) : iblk W c 2 t = V W c main_v13_1 := by
  funext y; blk_ext [iblk, V, index2_2 t]
theorem block3 (t : Fin cfg2.N) : iblk W c 3 t = V W c main_cst := by
  funext y; blk_ext [iblk, V, index2_3 t]

variable {W c} {a : Spec.Args} (ha : a.Real) (hq : V W c main_arg0 = a.q)
  (hk : ∀ h (n : Fin 255) d, V W c main_v13_0 (ix3 h n.castSucc d) = Spec.key a h n d)
  (hv : ∀ h (n : Fin 255) d, V W c main_v13_1 (ix3 h n.castSucc d) = Spec.val a h n d)
  (ho : ∀ (n : Fin 255) j, V W c main_cst (ix2 n.castSucc j) = a.ov n j)

/-- The attention output as an array: each head's 128 columns in turn. -/
def attended (a : Spec.Args) : FVec Ideal S4096x2048 .f32 := fun y =>
  Spec.out a (y 0) ⟨(y 1).val / 128, by have : (y 1).val < 2048 := (y 1).isLt; omega⟩ ⟨(y 1).val % 128, by omega⟩

/-- The positions as an array. -/
def selected (a : Spec.Args) : IVec S4096x16 32 := fun y =>
  BitVec.ofNat 32 (Spec.best a (y 0) ⟨(y 1).val, by have : (y 1).val < 16 := (y 1).isLt; omega⟩).val

include ha hq hk hv in
/-- The attention output. -/
theorem final4 : (dat W c).arrAt 4 cfg2.N = attended a := by
  refine (dat W c).arrAt_eq_of_covers 4 _ (by decide +kernel) fun t hf y => ?_
  blk_simp
  have h16 := sixteen t
  obtain ⟨r, j, rfl⟩ : ∃ (r : Fin 256) (j : Fin 2048), y = ix2 r j := ⟨y 0, y 1, eq_ix2 y⟩
  have e : (win2_4.blk t).view.emb (ix2 r j) = ix2 (n0 := 4096) (n1 := 2048) ⟨t.val * 256 + r.val, by omega⟩ j := by
    blk_ext [index2_4 t]
  rw [after2_4, block1, block2, block3, e]
  exact out_eq ha (t := ⟨t.val * 256 + r.val, by omega⟩) (by rw [coord])
    (fun h d => by rw [block0, hq]) hk hv j

include ha hq hk ho in
/-- The table of positions. -/
theorem final5 : (dat W c).arrAt 5 cfg2.N = selected a := by
  refine (dat W c).arrAt_eq_of_covers 5 _ (by decide +kernel) fun t hf y => ?_
  blk_simp
  have h16 := sixteen t
  obtain ⟨r, j, rfl⟩ : ∃ (r : Fin 256) (j : Fin 16), y = ix2 r j := ⟨y 0, y 1, eq_ix2 y⟩
  have e : (win2_5.blk t).view.emb (ix2 r j) = ix2 (n0 := 4096) (n1 := 16) ⟨t.val * 256 + r.val, by omega⟩ j := by
    blk_ext [index2_5 t]
  rw [after2_5, block1, block2, block3, e]
  exact table_eq ha (t := ⟨t.val * 256 + r.val, by omega⟩) (by rw [coord])
    (fun h d => by rw [block0, hq]) hk ho j

end Attn

end Cert.KernelIdeal

end
-- ==== Proof.KernelIdeal.Layout.lean ====
/-
The host operations before the calls: each block's 32 rows laid side by side, and the table of overlaps.
-/
module

public import proofs.«01_k».proof.Proof.KernelIdeal.Run
public import Idealize.ShloMosaic.Lib.Pointwise
public import Idealize.ShloMosaic.Lib.IdealHost
public import Idealize.ShloMosaic.Lib.Pipeline.ValueKit

@[expose] public section

set_option maxRecDepth 16384

noncomputable section

namespace Cert.KernelIdeal.Layout

open Cert.KernelIdeal.Gen
open Idealize.ShloMosaic Idealize.ShloMosaic.TcCoe

/-- The cache's first part, sixteen rows to a line. -/
def lines (x : FVec Ideal S4096x576 .f32) : FVec Ideal S256x8192 .f32 :=
  shapeCast S256x8192 (extractStridedSlice S4096x512 ![0, 0] x slices_S4096x576_S4096x512_0_0) shapeCasts_S4096x512_S256x8192

/-- The cache's position part, sixteen rows to a line. -/
def lines' (x : FVec Ideal S4096x576 .f32) : FVec Ideal S256x1024 .f32 :=
  shapeCast S256x1024 (extractStridedSlice S4096x64 ![0, 512] x slices_S4096x576_S4096x64_0_512) shapeCasts_S4096x64_S256x1024

/-- Each line beside the next one. -/
def pairs (y : FVec Ideal S256x8192 .f32) : FVec Ideal S256x16384 .f32 :=
  concatenate S256x16384 1 [⟨S256x8192, y⟩, ⟨S256x8192, concatenate S256x8192 0 [⟨S255x8192, extractStridedSlice S255x8192 ![1, 0] y slices_S256x8192_S255x8192_1_0⟩, ⟨S1x8192, broadcastInDim S1x8192 ![] bcast_S_S1x8192 (constant S_ .f32 0x00000000#32)⟩] concatenates_S255x8192_S1x8192_S256x8192_d0⟩] concatenates_S256x8192_S256x8192_S256x16384_d1

/-- Each line beside the next one. -/
def pairs' (y : FVec Ideal S256x1024 .f32) : FVec Ideal S256x2048 .f32 :=
  concatenate S256x2048 1 [⟨S256x1024, y⟩, ⟨S256x1024, concatenate S256x1024 0 [⟨S255x1024, extractStridedSlice S255x1024 ![1, 0] y slices_S256x1024_S255x1024_1_0⟩, ⟨S1x1024, broadcastInDim S1x1024 ![] bcast_S_S1x1024 (constant S_ .f32 0x00000000#32)⟩] concatenates_S255x1024_S1x1024_S256x1024_d0⟩] concatenates_S256x1024_S256x1024_S256x2048_d1

theorem ix2_of {a b : ℕ} {x x' : Fin a} {y y' : Fin b} (hx : x.val = x'.val) (hy : y.val = y'.val) :
    ix2 x y = ix2 x' y' := by rw [Fin.ext hx, Fin.ext hy]

theorem lines_apply (x : FVec Ideal S4096x576 .f32) (n : Fin 256) (j : Fin 8192) :
    lines x (ix2 n j) = x (ix2 ⟨16 * n.val + j.val / 512, by omega⟩ ⟨j.val % 512, by omega⟩) := by
  unfold lines
  simp only [pointwise]
  refine congrArg x ?_
  congr 1 <;> refine Fin.ext ?_ <;> simp <;> omega

theorem lines'_apply (x : FVec Ideal S4096x576 .f32) (n : Fin 256) (j : Fin 1024) :
    lines' x (ix2 n j) = x (ix2 ⟨16 * n.val + j.val / 64, by omega⟩ ⟨512 + j.val % 64, by omega⟩) := by
  unfold lines'
  simp only [pointwise]
  refine congrArg x ?_
  congr 1 <;> refine Fin.ext ?_ <;> simp <;> omega

theorem pairs_apply (y : FVec Ideal S256x8192 .f32) (n : Fin 255) (j : Fin 16384) :
    pairs y (ix2 n.castSucc j)
      = if h : j.val < 8192 then y (ix2 n.castSucc ⟨j.val, h⟩) else y (ix2 n.succ ⟨j.val - 8192, by omega⟩) := by
  unfold pairs
  simp only [pointwise]
  split
  · rfl
  · refine (dif_pos n.isLt).trans (congrArg y (ix2_of ?_ ?_))
    · show 1 + n.val = n.val + 1
      omega
    · simp

theorem pairs'_apply (y : FVec Ideal S256x1024 .f32) (n : Fin 255) (j : Fin 2048) :
    pairs' y (ix2 n.castSucc j)
      = if h : j.val < 1024 then y (ix2 n.castSucc ⟨j.val, h⟩) else y (ix2 n.succ ⟨j.val - 1024, by omega⟩) := by
  unfold pairs'
  simp only [pointwise]
  split
  · rfl
  · refine (dif_pos n.isLt).trans (congrArg y (ix2_of ?_ ?_))
    · show 1 + n.val = n.val + 1
      omega
    · simp

variable (m : (ℓ : Loc nD τ sig) → Buf (Elt Ideal) ℓ) (c : Dev nD)

theorem W1_v10 : Run.W1 m c (Proc.devRef .tc main_v10) = pairs (lines (m ((c : Thread nD τ).loc main_arg1))) := by
  unfold Run.W1 Run.W0
  simp only [hostOps0]
  after_results_simp
  rfl

theorem W1_v11 : Run.W1 m c (Proc.devRef .tc main_v11) = pairs' (lines' (m ((c : Thread nD τ).loc main_arg1))) := by
  unfold Run.W1 Run.W0
  simp only [hostOps0]
  after_results_simp
  rfl

theorem W1_cst : Run.W1 m c (Proc.devRef .tc main_cst) = fun i => Ideal.ofBits .f32 (lit0 (S256x64.rowMajor i)) := by
  unfold Run.W1 Run.W0
  simp only [hostOps0]
  after_results_simp
  rfl

end Cert.KernelIdeal.Layout

end
-- ==== Proof.KernelIdeal.OverlapWords.lean ====
/-
The words of the two programs' tables of overlaps: the same ones, each 0, one half or 1.
-/
module

public import proofs.«01_k».proof.KernelIdeal
public import proofs.«01_k».proof.ReferenceIdeal

@[expose] public section

set_option maxRecDepth 16384

noncomputable section

namespace Cert.KernelIdeal.Overlap

theorem same : ∀ (n : Fin 255) (j : Fin 64),
    Cert.KernelIdeal.lit0t (n.val * 64 + j.val) = Cert.ReferenceIdeal.lit0t (n.val * 64 + j.val) := by decide +kernel

theorem words : ∀ (n : Fin 255) (j : Fin 64), Cert.ReferenceIdeal.lit0t (n.val * 64 + j.val) = 0x00000000#32
    ∨ Cert.ReferenceIdeal.lit0t (n.val * 64 + j.val) = 0x3F000000#32
    ∨ Cert.ReferenceIdeal.lit0t (n.val * 64 + j.val) = 0x3F800000#32 := by decide +kernel

end Cert.KernelIdeal.Overlap

end
-- ==== Proof.ReferenceIdeal.Steps.lean ====
/-
The reference's two results, named step by step.
-/
module

public import proofs.«01_k».proof.Proof.Gen.ReferenceIdeal.Run
public import Idealize.ShloMosaic.Lib.Pointwise
public import Idealize.ShloMosaic.Lib.IdealHost

@[expose] public section

set_option maxRecDepth 16384

noncomputable section

namespace Cert.ReferenceIdeal.Steps

open Cert.ReferenceIdeal Cert.ReferenceIdeal.Gen Cert.ReferenceIdeal.Value
open Idealize.ShloMosaic Idealize.ShloMosaic.TcCoe

/-- The 32 rows that each block reads. -/
def rows (a1 : FVec Ideal S4096x576 .f32) : FVec Ideal S255x32x576 .f32 :=
  Host.gather gather_S4096x576_S255x32x1_S255x32x576_2_0_n_n_0_2_1576 a1 (broadcastInDim S255x32x1 ![0, 1] bcast_S255x32_S255x32x1_0_1 (select (cmpi .slt (addi (broadcastInDim S255x32 ![0, 1] bcast_S255x1_S255x32_0_1 (muli (broadcastInDim S255x1 ![0] bcast_S255_S255x1_0 (iotaInDim S255 32 0)) (broadcastInDim S255x1 ![] bcast_S_S255x1 (constantI S_ 32 16#32)))) (broadcastInDim S255x32 ![0, 1] bcast_S1x32_S255x32_0_1 (broadcastInDim S1x32 ![1] bcast_S32_S1x32_1 (iotaInDim S32 32 0)))) (broadcastInDim S255x32 ![] bcast_S_S255x32 (constantI S_ 32 0#32))) (addi (addi (broadcastInDim S255x32 ![0, 1] bcast_S255x1_S255x32_0_1 (muli (broadcastInDim S255x1 ![0] bcast_S255_S255x1_0 (iotaInDim S255 32 0)) (broadcastInDim S255x1 ![] bcast_S_S255x1 (constantI S_ 32 16#32)))) (broadcastInDim S255x32 ![0, 1] bcast_S1x32_S255x32_0_1 (broadcastInDim S1x32 ![1] bcast_S32_S1x32_1 (iotaInDim S32 32 0)))) (broadcastInDim S255x32 ![] bcast_S_S255x32 (constantI S_ 32 4096#32))) (addi (broadcastInDim S255x32 ![0, 1] bcast_S255x1_S255x32_0_1 (muli (broadcastInDim S255x1 ![0] bcast_S255_S255x1_0 (iotaInDim S255 32 0)) (broadcastInDim S255x1 ![] bcast_S_S255x1 (constantI S_ 32 16#32)))) (broadcastInDim S255x32 ![0, 1] bcast_S1x32_S255x32_0_1 (broadcastInDim S1x32 ![1] bcast_S32_S1x32_1 (iotaInDim S32 32 0))))))

/-- The compressed rows. -/
def compressed (a1 : FVec Ideal S4096x576 .f32) (a2 : FVec Ideal S16384x512 .f32) : FVec Ideal S255x512 .f32 :=
  Host.dotGeneral dot_S255x16384_S16384x512_S255x512_1_0_0_1_n_n none (shapeCast _ (extractStridedSlice S255x32x512 ![0, 0, 0] (rows a1) slices_S255x32x576_S255x32x512_0_0_0) shapeCasts_S255x32x512_S255x16384) a2

/-- The compressed position parts. -/
def position (a1 : FVec Ideal S4096x576 .f32) (a3 : FVec Ideal S2048x64 .f32) : FVec Ideal S255x64 .f32 :=
  Host.dotGeneral dot_S255x2048_S2048x64_S255x64_1_0_0_1_n_n none (shapeCast _ (extractStridedSlice S255x32x64 ![0, 0, 512] (rows a1) slices_S255x32x576_S255x32x64_0_0_512) shapeCasts_S255x32x64_S255x2048) a3

/-- The keys and values of all heads. -/
def projected (a1 : FVec Ideal S4096x576 .f32) (a2 : FVec Ideal S16384x512 .f32) (a4 : FVec Ideal S512x4096 .f32) : FVec Ideal S255x4096 .f32 :=
  Host.dotGeneral dot_S255x512_S512x4096_S255x4096_1_0_0_1_n_n none (compressed a1 a2) a4

/-- The same by head. -/
def heads (a1 : FVec Ideal S4096x576 .f32) (a2 : FVec Ideal S16384x512 .f32) (a4 : FVec Ideal S512x4096 .f32) : FVec Ideal S255x16x256 .f32 :=
  shapeCast _ (projected a1 a2 a4) shapeCasts_S255x4096_S255x16x256

/-- The keys: own part, then position part. -/
def keys (a1 : FVec Ideal S4096x576 .f32) (a2 : FVec Ideal S16384x512 .f32) (a3 : FVec Ideal S2048x64 .f32) (a4 : FVec Ideal S512x4096 .f32) : FVec Ideal S255x16x192 .f32 :=
  concatenate S255x16x192 2 [⟨S255x16x128, (extractStridedSlice S255x16x128 ![0, 0, 0] (heads a1 a2 a4) slices_S255x16x256_S255x16x128_0_0_0)⟩, ⟨S255x16x64, (broadcastInDim S255x16x64 ![0, 1, 2] bcast_S255x1x64_S255x16x64_0_1_2 (broadcastInDim S255x1x64 ![0, 2] bcast_S255x64_S255x1x64_0_2 (position a1 a3)))⟩] concatenates_S255x16x128_S255x16x64_S255x16x192_d2

/-- The scaled products of queries and keys. -/
def logits (a0 : FVec Ideal S4096x16x192 .f32) (a1 : FVec Ideal S4096x576 .f32) (a2 : FVec Ideal S16384x512 .f32) (a3 : FVec Ideal S2048x64 .f32) (a4 : FVec Ideal S512x4096 .f32) : FVec Ideal S16x4096x255 .f32 :=
  mulf (Host.dotGeneral dot_S4096x16x192_S255x16x192_S16x4096x255_2_2_0_0_1_1 none a0 (keys a1 a2 a3 a4)) (broadcastInDim S16x4096x255 ![] bcast_S_S16x4096x255 (constant S_ .f32 0x3D93CD3A#32))

/-- Whether a token sees a block, the same for all heads. -/
def visibleOne : IVec S1x4096x255 1 :=
  cmpi .sge (broadcastInDim S1x4096x255 ![0, 1, 2] bcast_S1x4096x1_S1x4096x255_0_1_2 (broadcastInDim S1x4096x1 ![1] bcast_S4096_S1x4096x1_1 (iotaInDim S4096 32 0))) (broadcastInDim S1x4096x255 ![0, 1, 2] bcast_S1x1x255_S1x4096x255_0_1_2 (broadcastInDim S1x1x255 ![2] bcast_S255_S1x1x255_2 (subi (addi (muli (iotaInDim S255 32 0) (broadcastInDim S255 ![] bcast_S_S255 (constantI S_ 32 16#32))) (broadcastInDim S255 ![] bcast_S_S255 (constantI S_ 32 32#32))) (broadcastInDim S255 ![] bcast_S_S255 (constantI S_ 32 1#32)))))

/-- Whether a token sees any block. -/
def seesAny : IVec S1x4096 1 :=
  Host.reduce IntOp.ori visibleOne (constantI S_ 1 0#1) reducesTo_S1x4096x255_S1x4096_d2 h_S_

/-- Whether a token sees a block. -/
def visible : IVec S16x4096x255 1 :=
  broadcastInDim S16x4096x255 ![0, 1, 2] bcast_S1x4096x255_S16x4096x255_0_1_2 visibleOne

/-- The logits, hidden blocks at minus infinity. -/
def masked (x : FVec Ideal S16x4096x255 .f32) : FVec Ideal S16x4096x255 .f32 :=
  select visible x (broadcastInDim S16x4096x255 ![] bcast_S_S16x4096x255 (id (constant S_ .f32 0xFF800000#32)))

/-- The greatest logit of a row. -/
def greatest (x : FVec Ideal S16x4096x255 .f32) : FVec Ideal S16x4096 .f32 :=
  Host.reduce FloatOps.maximumf (masked x) (constant S_ .f32 0xFF800000#32) reducesTo_S16x4096x255_S16x4096_d2 h_S_

/-- That, and not below minus infinity. -/
def ceiling (x : FVec Ideal S16x4096x255 .f32) : FVec Ideal S16x4096 .f32 :=
  maximumf (broadcastInDim S16x4096 ![] bcast_S_S16x4096 (constant S_ .f32 0xFF800000#32)) (greatest x)

/-- The exponentials. -/
def weights (x : FVec Ideal S16x4096x255 .f32) : FVec Ideal S16x4096x255 .f32 :=
  Host.exp (subf (masked x) (broadcastInDim S16x4096x255 ![0, 1, 2] bcast_S16x4096x1_S16x4096x255_0_1_2 (broadcastInDim S16x4096x1 ![0, 1] bcast_S16x4096_S16x4096x1_0_1 (ceiling x))))

/-- The sum of the exponentials of a row. -/
def total (x : FVec Ideal S16x4096x255 .f32) : FVec Ideal S16x4096 .f32 :=
  Host.reduceAdd (weights x) (constant S_ .f32 0x00000000#32) reducesTo_S16x4096x255_S16x4096_d2 h_S_

/-- The softmax. -/
def soft (x : FVec Ideal S16x4096x255 .f32) : FVec Ideal S16x4096x255 .f32 :=
  Host.divf (weights x) (broadcastInDim S16x4096x255 ![0, 1, 2] bcast_S16x4096x1_S16x4096x255_0_1_2 (broadcastInDim S16x4096x1 ![0, 1] bcast_S16x4096_S16x4096x1_0_1 (total x)))

/-- The softmax, zero where a token sees no block. -/
def probs (x : FVec Ideal S16x4096x255 .f32) : FVec Ideal S16x4096x255 .f32 :=
  mulf (soft x) (broadcastInDim S16x4096x255 ![0, 1, 2] bcast_S1x4096x1_S16x4096x255_0_1_2 (uitofp .f32 (broadcastInDim S1x4096x1 ![0, 1] bcast_S1x4096_S1x4096x1_0_1 seesAny)))

/-- The selection block a token lies in. -/
def current : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))

/-- The weights of all heads, pooled to selection blocks. -/
def pooled (p : FVec Ideal S16x4096x255 .f32) : FVec Ideal S4096x64 .f32 :=
  Host.dotGeneral dot_S4096x255_S255x64_S4096x64_1_0_0_1_n_n none (Host.reduceAdd p (constant S_ .f32 0x00000000#32) reducesTo_S16x4096x255_S4096x255_d0 h_S_) ((fun i => FloatOps.ofBits .f32 (lit0 (S255x64.rowMajor i))))

/-- Whether a selection block is not after the token. -/
def causal : IVec S4096x64 1 :=
  cmpi .sle (broadcastInDim S4096x64 ![0, 1] bcast_S1x64_S4096x64_0_1 (broadcastInDim S1x64 ![1] bcast_S64_S1x64_1 (iotaInDim S64 32 0))) (broadcastInDim S4096x64 ![0, 1] bcast_S4096x1_S4096x64_0_1 (broadcastInDim S4096x1 ![0] bcast_S4096_S4096x1_0 current))

/-- How many selection blocks back. -/
def behind : IVec S4096x64 32 :=
  subi (broadcastInDim S4096x64 ![0, 1] bcast_S4096x1_S4096x64_0_1 (broadcastInDim S4096x1 ![0] bcast_S4096_S4096x1_0 current)) (broadcastInDim S4096x64 ![0, 1] bcast_S1x64_S4096x64_0_1 (broadcastInDim S1x64 ![1] bcast_S64_S1x64_1 (iotaInDim S64 32 0)))

/-- The selection scores. -/
def blockScore (p : FVec Ideal S16x4096x255 .f32) : FVec Ideal S4096x64 .f32 :=
  select (andi (ori (broadcastInDim S4096x64 ![0, 1] bcast_S1x64_S4096x64_0_1 (cmpi .slt (broadcastInDim S1x64 ![1] bcast_S64_S1x64_1 (iotaInDim S64 32 0)) (broadcastInDim S1x64 ![] bcast_S_S1x64 (constantI S_ 32 1#32)))) (andi (cmpi .sge behind (broadcastInDim S4096x64 ![] bcast_S_S4096x64 (constantI S_ 32 0#32))) (cmpi .slt behind (broadcastInDim S4096x64 ![] bcast_S_S4096x64 (constantI S_ 32 2#32))))) causal) (broadcastInDim S4096x64 ![] bcast_S_S4096x64 (id (constant S_ .f32 0x4E6E6B28#32))) (select causal (pooled p) (broadcastInDim S4096x64 ![] bcast_S_S4096x64 (id (constant S_ .f32 0xCE6E6B28#32))))

/-- The attention output. -/
def attended (a0 : FVec Ideal S4096x16x192 .f32) (a1 : FVec Ideal S4096x576 .f32) (a2 : FVec Ideal S16384x512 .f32) (a3 : FVec Ideal S2048x64 .f32) (a4 : FVec Ideal S512x4096 .f32) : FVec Ideal S4096x2048 .f32 :=
  shapeCast _ (transpose S4096x16x128 [2, 0, 1] (Host.dotGeneral dot_S255x16x128_S16x4096x255_S16x128x4096_0_2_2_1_1_0 none (extractStridedSlice S255x16x128 ![0, 0, 128] (heads a1 a2 a4) slices_S255x16x256_S255x16x128_0_0_128) (probs (logits a0 a1 a2 a3 a4))) transposes_S16x128x4096_S4096x16x128_2_0_1) shapeCasts_S4096x16x128_S4096x2048

/-- The selected blocks. -/
def selected (a0 : FVec Ideal S4096x16x192 .f32) (a1 : FVec Ideal S4096x576 .f32) (a2 : FVec Ideal S16384x512 .f32) (a3 : FVec Ideal S2048x64 .f32) (a4 : FVec Ideal S512x4096 .f32) : IVec S4096x1x16 32 :=
  broadcastInDim S4096x1x16 ![0, 2] bcast_S4096x16_S4096x1x16_0_2 ((Host.topK S4096x16 1 (FloatOps.cmpfTotal .gt) (blockScore (probs (logits a0 a1 a2 a3 a4))) sliceFits_S4096x64_S4096x16).2)

theorem out0_eq (m : (ℓ : Loc nD τ sig) → Buf (Elt Ideal) ℓ) (c : Dev nD) :
    res_out0 m c = attended (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem out1_eq (m : (ℓ : Loc nD τ sig) → Buf (Elt Ideal) ℓ) (c : Dev nD) :
    res_out1 m c = selected (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.ReferenceIdeal.Steps

end
-- ==== Proof.ReferenceIdeal.Value.lean ====
/-
The reference's steps read at an index.
-/
module

public import proofs.«01_k».proof.Proof.ReferenceIdeal.Steps
public import proofs.«01_k».proof.Proof.Spec

@[expose] public section

set_option maxRecDepth 16384

noncomputable section

namespace Cert.ReferenceIdeal.Steps

open Cert.ReferenceIdeal Cert.ReferenceIdeal.Gen Cert.ReferenceIdeal.Value
open Idealize.ShloMosaic Idealize.ShloMosaic.TcCoe

/-- The rows that the gather takes: the start word, read signed and kept within the array. -/
theorem gather_apply (x : FVec Ideal S4096x576 .f32) (idx : IVec S255x32x1 32) (n : Fin 255) (s : Fin 32) (c : Fin 576) :
    Host.gather gather_S4096x576_S255x32x1_S255x32x576_2_0_n_n_0_2_1576 x idx (ix3 n s c)
      = x (ix2 ⟨min (idx (ix3 n s 0)).toInt.toNat 4095, by omega⟩ c) := by
  unfold Host.gather
  congr 1
  funext a
  refine Fin.ext ?_
  change GatherDims.start _ _ idx a + GatherDims.batchCoord _ _ a + GatherDims.offCoord _ _ a = _
  have h01 : a = 0 ∨ a = 1 := by
    match a with
    | ⟨0, _⟩ => exact .inl rfl
    | ⟨1, _⟩ => exact .inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S4096x576_S255x32x1_S255x32x576_2_0_n_n_0_2_1576.startIndexMap from
      List.mem_singleton.mpr rfl)]
    simp only [Nat.add_zero]
    have hsi : ∀ h, gather_S4096x576_S255x32x1_S255x32x576_2_0_n_n_0_2_1576.siIdx (ix3 n s c) ⟨0, h⟩ = ix3 n s 0 := by
      intro h
      funext b
      refine Fin.ext ?_
      match b with
      | ⟨0, _⟩ => rfl
      | ⟨1, _⟩ => rfl
      | ⟨2, _⟩ => rfl
    exact congrArg (fun w => min (idx w).toInt.toNat 4095) (hsi _)
  · rw [GatherDims.batchCoord_eq_zero _ _ _ List.not_mem_nil]
    unfold GatherDims.start
    rw [dif_neg (show ¬ (1 : Fin 2) ∈ gather_S4096x576_S255x32x1_S255x32x576_2_0_n_n_0_2_1576.startIndexMap from
      show ¬ (1 : Fin 2) ∈ [(0 : Fin 2)] by decide)]
    simp only [Nat.zero_add, Nat.add_zero]
    unfold GatherDims.offCoord
    rw [dif_pos ((GatherDims.mem_sKept _ _).mpr ⟨show ¬ (1 : Fin 2) ∈ [(0 : Fin 2)] by decide, List.not_mem_nil⟩)]
    rfl

theorem start_word (n s : ℕ) (hn : n < 255) (hs : s < 32) :
    Scalar.select (IntOp.cmpi .slt (IntOp.addi (IntOp.muli (BitVec.ofNat 32 n) 16#32) (BitVec.ofNat 32 s)) 0#32)
        (IntOp.addi (IntOp.addi (IntOp.muli (BitVec.ofNat 32 n) 16#32) (BitVec.ofNat 32 s)) 4096#32)
        (IntOp.addi (IntOp.muli (BitVec.ofNat 32 n) 16#32) (BitVec.ofNat 32 s)) = BitVec.ofNat 32 (16 * n + s) := by
  have h : IntOp.addi (IntOp.muli (BitVec.ofNat 32 n) 16#32) (BitVec.ofNat 32 s) = BitVec.ofNat 32 (16 * n + s) := by
    show BitVec.ofNat 32 n * 16#32 + BitVec.ofNat 32 s = _
    rw [BitVec.ofNat_add, BitVec.ofNat_mul, BitVec.mul_comm]
  rw [h, WordCmp.cmpi_slt_zero, BitVec.toNat_ofNat, Nat.mod_eq_of_lt (by omega), Words.select_ofBool, if_neg (by omega)]

theorem rows_apply (a1 : FVec Ideal S4096x576 .f32) (n : Fin 255) (s : Fin 32) (c : Fin 576) :
    rows a1 (ix3 n s c) = a1 (ix2 ⟨16 * n.val + s.val, by omega⟩ c) := by
  unfold rows
  rw [gather_apply]
  congr 2
  refine Fin.ext ?_
  simp only [pointwise]
  simp only [show ¬ (255 = 1) from by decide, show ¬ (32 = 1) from by decide, reduceDIte]
  rw [start_word _ _ n.isLt s.isLt, WordCmp.toInt_ofNat_of_lt (by omega)]
  simp only [Int.toNat_natCast]
  omega

variable (a : Spec.Args)

theorem compressed_apply (n : Fin 255) (l : Fin 512) : compressed a.kv a.wc (ix2 n l) = Spec.comp a n l := by
  unfold compressed Spec.comp
  simp only [pointwise]
  rw [zero_add]
  refine Finset.sum_congr rfl fun k _ => ?_
  rw [rows_apply]
  congr 3 <;> exact Fin.ext (by simp)

theorem position_apply (n : Fin 255) (d : Fin 64) : position a.kv a.wp (ix2 n d) = Spec.pos a n d := by
  unfold position Spec.pos
  simp only [pointwise]
  rw [zero_add]
  refine Finset.sum_congr rfl fun k _ => ?_
  rw [rows_apply]
  congr 3 <;> exact Fin.ext (by simp)

theorem heads_apply (n : Fin 255) (h : Fin 16) (d : Fin 256) :
    heads a.kv a.wc a.wb (ix3 n h d) = Spec.proj a n ⟨h.val * 256 + d.val, by omega⟩ := by
  unfold heads projected Spec.proj
  simp only [pointwise]
  rw [zero_add]
  exact Finset.sum_congr rfl fun k _ => by rw [compressed_apply]

theorem keys_apply (n : Fin 255) (h : Fin 16) (d : Fin 192) :
    keys a.kv a.wc a.wp a.wb (ix3 n h d) = Spec.key a h n d := by
  unfold keys Spec.key
  simp only [pointwise]
  split
  · rw [heads_apply]
    congr 1 <;> exact Fin.ext (by simp)
  · simp only [show ¬ (255 = 1) from by decide, show ¬ (64 = 1) from by decide, reduceDIte]
    rw [← position_apply]
    rfl

theorem logits_apply (h : Fin 16) (t : Fin 4096) (n : Fin 255) :
    logits a.q a.kv a.wc a.wp a.wb (ix3 h t n) = Spec.logit a t h n := by
  unfold logits Spec.logit
  simp only [pointwise]
  rw [zero_add]
  simp only [keys_apply]

theorem visibleOne_apply (t : Fin 4096) (n : Fin 255) :
    visibleOne (ix3 0 t n) = IntOp.cmpi .sge (BitVec.ofNat 32 t.val) (BitVec.ofNat 32 (16 * n.val + 31)) := by
  unfold visibleOne
  simp only [pointwise]
  simp only [show ¬ (255 = 1) from by decide, show ¬ (4096 = 1) from by decide, reduceDIte]
  rw [Words.last']

theorem masked_apply (x : FVec Ideal S16x4096x255 .f32) (h : Fin 16) (t : Fin 4096) (n : Fin 255) :
    masked x (ix3 h t n) = Softmax.hide (fun n => x (ix3 h t n)) t.val n := by
  unfold masked visible
  simp only [pointwise]
  simp only [show ¬ (255 = 1) from by decide, show ¬ (4096 = 1) from by decide, reduceDIte]
  rw [visibleOne_apply, Words.select_sees t.isLt (by omega)]
  unfold Softmax.hide
  exact congrArg _ Words.ofBits_bot

theorem greatest_apply (x : FVec Ideal S16x4096x255 .f32) (h : Fin 16) (t : Fin 4096) :
    greatest x (ix2 h t) = Softmax.top (fun n => x (ix3 h t n)) t.val := by
  unfold greatest Softmax.top
  simp only [pointwise]
  rw [Words.ofBits_bot]
  exact Finset.fold_congr fun n _ => masked_apply x h t n

/-- No number lies below minus infinity. -/
theorem max_bottom (g : FVec Ideal S16x4096 .f32) :
    maximumf (broadcastInDim S16x4096 ![] bcast_S_S16x4096 (constant S_ .f32 0xFF800000#32)) g = g := by
  funext j
  have h : maximumf (broadcastInDim S16x4096 ![] bcast_S_S16x4096 (constant S_ .f32 0xFF800000#32)) g j
      = max (Ideal.ofBits .f32 0xFF800000#32) (g j) := rfl
  rw [h, Words.ofBits_bot, max_eq_right bot_le]

theorem ceiling_apply (x : FVec Ideal S16x4096x255 .f32) (h : Fin 16) (t : Fin 4096) :
    ceiling x (ix2 h t) = Softmax.top (fun n => x (ix3 h t n)) t.val := by
  unfold ceiling
  rw [max_bottom]
  exact greatest_apply x h t

theorem weights_apply (x : FVec Ideal S16x4096x255 .f32) (h : Fin 16) (t : Fin 4096) (n : Fin 255) :
    weights x (ix3 h t n) = Softmax.weight (fun n => x (ix3 h t n)) t.val n := by
  unfold weights
  simp only [pointwise]
  simp only [show ¬ (16 = 1) from by decide, show ¬ (4096 = 1) from by decide, reduceDIte]
  rw [ceiling_apply, masked_apply]
  rfl

theorem total_apply (x : FVec Ideal S16x4096x255 .f32) (h : Fin 16) (t : Fin 4096) :
    total x (ix2 h t) = ∑ n, Softmax.weight (fun n => x (ix3 h t n)) t.val n := by
  unfold total
  simp only [pointwise]
  rw [zero_add]
  exact Finset.sum_congr rfl fun n _ => weights_apply x h t n

theorem seesAny_apply (t : Fin 4096) :
    seesAny (ix2 0 t) = Finset.univ.fold IntOp.ori 0#1
        (fun n : Fin 255 => IntOp.cmpi .sge (BitVec.ofNat 32 t.val) (BitVec.ofNat 32 (16 * n.val + 31))) := by
  unfold seesAny
  simp only [pointwise]
  exact Finset.fold_congr fun n _ => visibleOne_apply t n

theorem probs_apply (h : Fin 16) (t : Fin 4096) (n : Fin 255) :
    probs (logits a.q a.kv a.wc a.wp a.wb) (ix3 h t n) = Spec.prob a t h n := by
  unfold probs soft
  simp only [pointwise]
  simp only [show ¬ (16 = 1) from by decide, show ¬ (4096 = 1) from by decide, reduceDIte]
  rw [weights_apply, total_apply, seesAny_apply, Words.seen' t.isLt]
  simp only [logits_apply]
  rfl

theorem attended_apply (t : Fin 4096) (j : Fin 2048) :
    attended a.q a.kv a.wc a.wp a.wb (ix2 t j)
      = Spec.out a t ⟨j.val / 128, by omega⟩ ⟨j.val % 128, by omega⟩ := by
  unfold attended Spec.out
  simp only [pointwise]
  rw [zero_add]
  refine Finset.sum_congr rfl fun n _ => ?_
  rw [probs_apply, heads_apply, mul_comm]
  unfold Spec.val
  congr 2 <;> exact Fin.ext (by simp)

/-- The table of overlaps. -/
def overlap (n : Fin 255) (j : Fin 64) : EReal := Ideal.ofBits .f32 (lit0 (S255x64.rowMajor (ix2 n j)))

theorem pooled_apply (hov : a.ov = overlap) (t : Fin 4096) (j : Fin 64) :
    pooled (probs (logits a.q a.kv a.wc a.wp a.wb)) (ix2 t j) = Spec.pooled a t j := by
  unfold pooled Spec.pooled
  simp only [pointwise]
  rw [zero_add]
  refine Finset.sum_congr rfl fun n _ => ?_
  rw [zero_add, hov]
  simp only [probs_apply]
  rfl

theorem current_apply (t : Fin 4096) : current (ix1 t) = BitVec.ofNat 32 (t.val / 64) := by
  unfold current
  simp only [pointwise]
  exact Words.block' t.isLt

theorem blockScore_apply (hov : a.ov = overlap) (t : Fin 4096) (j : Fin 64) :
    blockScore (probs (logits a.q a.kv a.wc a.wp a.wb)) (ix2 t j) = Spec.score a t j := by
  unfold blockScore causal behind Spec.score Spec.rate
  simp only [pointwise]
  simp only [show ¬ (64 = 1) from by decide, show ¬ (4096 = 1) from by decide, reduceDIte]
  rw [current_apply, pooled_apply a hov, ← Words.ofBits_neg_large]
  rfl

/-- A row sorted, and a second row carried along. -/
theorem sort2_apply {α β : Type} (cmp : α × β → α × β → BitVec 1) (x : S4096x64.Idx → α) (y : S4096x64.Idx → β)
    (t : Fin 4096) (r : Fin 64) :
    (Host.sort2 S4096x64 1 cmp x y).2 (ix2 t r)
      = y (ix2 t (sortedFrom (fun k k' => cmp (x (ix2 t k), y (ix2 t k)) (x (ix2 t k'), y (ix2 t k')) == 1#1) r)) := by
  have hal : ∀ k : Fin 64, Shape.Idx.along (s := S4096x64) (ix2 t r) 1 k = ix2 t k := by
    intro k
    funext b
    match b with
    | ⟨0, _⟩ => rfl
    | ⟨1, _⟩ => rfl
  have key : ∀ A : Fin 64 → S4096x64.Idx, A = (fun k => Shape.Idx.along (s := S4096x64) (ix2 t r) 1 k) →
      (Host.sort2 S4096x64 1 cmp x y).2 (ix2 t r)
        = y (A (sortedFrom (fun k k' => cmp (x (A k), y (A k)) (x (A k'), y (A k')) == 1#1) r)) := by
    rintro _ rfl; rfl
  exact key (fun k => ix2 t k) (funext fun k => (hal k).symm)

/-- The positions that the sort puts first. -/
theorem topK_apply (x : FVec Ideal S4096x64 .f32) (t : Fin 4096) (r : Fin 16) :
    (Host.topK S4096x16 1 (FloatOps.cmpfTotal .gt) x sliceFits_S4096x64_S4096x16).2 (ix2 t r)
      = BitVec.ofNat 32 (sortedFrom (Topk.greater (fun j => x (ix2 t j))) ⟨r.val, by omega⟩).val := by
  have hbf : (fun k k' : Fin 64 => FloatOps.cmpfTotal (F := Ideal) (φ := .f32) .gt (x (ix2 t k)) (x (ix2 t k')) == 1#1)
      = Topk.greater (fun j => x (ix2 t j)) := by
    funext k k'
    show (BitVec.ofBool (decide (x (ix2 t k') < x (ix2 t k))) == 1#1) = decide (x (ix2 t k') < x (ix2 t k))
    by_cases h : x (ix2 t k') < x (ix2 t k) <;> simp [h]
  rw [← hbf]
  unfold Host.topK
  simp only [pointwise]
  have hi : (ix2 (⟨0 + t.val, by omega⟩ : Fin 4096) (⟨0 + r.val, by omega⟩ : Fin 64)) = ix2 t ⟨r.val, by omega⟩ := by
    congr 1 <;> exact Fin.ext (by simp)
  rw [hi, sort2_apply]
  rfl

theorem selected_apply (hov : a.ov = overlap) (t : Fin 4096) (r : Fin 16) :
    selected a.q a.kv a.wc a.wp a.wb (ix3 t 0 r) = BitVec.ofNat 32 (Spec.best a t ⟨r.val, by omega⟩).val := by
  unfold selected
  simp only [pointwise]
  simp only [show ¬ (16 = 1) from by decide, show ¬ (4096 = 1) from by decide, reduceDIte]
  rw [topK_apply]
  simp only [blockScore_apply a hov]
  rfl

end Cert.ReferenceIdeal.Steps

end
-- ==== Proof.KernelIdeal.Overlap.lean ====
/-
The kernel's table of overlaps is the reference's, and holds no negative number.
-/
module

public import proofs.«01_k».proof.Proof.KernelIdeal.OverlapWords
public import proofs.«01_k».proof.Proof.ReferenceIdeal.Value

@[expose] public section

set_option maxRecDepth 16384

noncomputable section

namespace Cert.KernelIdeal.Overlap

open Idealize.ShloMosaic

theorem kernel_word (n : Fin 255) (j : Fin 64) :
    Cert.KernelIdeal.lit0 (Cert.KernelIdeal.S256x64.rowMajor (ix2 n.castSucc j)) = Cert.KernelIdeal.lit0t (n.val * 64 + j.val) := by
  show Cert.KernelIdeal.lit0t (Cert.KernelIdeal.S256x64.rowMajor (ix2 n.castSucc j)).val = _
  rw [Shape.rowMajor_val_two]
  rfl

theorem reference_word (n : Fin 255) (j : Fin 64) :
    Cert.ReferenceIdeal.lit0 (Cert.ReferenceIdeal.S255x64.rowMajor (ix2 n j)) = Cert.ReferenceIdeal.lit0t (n.val * 64 + j.val) := by
  show Cert.ReferenceIdeal.lit0t (Cert.ReferenceIdeal.S255x64.rowMajor (ix2 n j)).val = _
  rw [Shape.rowMajor_val_two]
  rfl

/-- The kernel's table, its last row apart, is the reference's. -/
theorem table_eq (n : Fin 255) (j : Fin 64) :
    Ideal.ofBits .f32 (Cert.KernelIdeal.lit0 (Cert.KernelIdeal.S256x64.rowMajor (ix2 n.castSucc j)))
      = Cert.ReferenceIdeal.Steps.overlap n j := by
  unfold Cert.ReferenceIdeal.Steps.overlap
  rw [kernel_word, reference_word, same]

/-- No overlap is negative. -/
theorem nonneg (n : Fin 255) (j : Fin 64) : 0 ≤ Cert.ReferenceIdeal.Steps.overlap n j := by
  unfold Cert.ReferenceIdeal.Steps.overlap
  rw [reference_word]
  rcases words n j with h | h | h <;> rw [h]
  · simp [Ideal.ofBits, Ideal.ieee, -EReal.coe_mul, -EReal.coe_neg]
  · simp [Ideal.ofBits, Ideal.ieee, -EReal.coe_mul, -EReal.coe_neg]
  · rw [Ideal.ofBits_one_f32]
    exact zero_le_one

end Cert.KernelIdeal.Overlap

end
-- ==== Proof.KernelIdeal.Final.lean ====
/-
What the whole run leaves in the two results, as the specification's values at the arguments.
-/
module

public import proofs.«01_k».proof.Proof.KernelIdeal.Calls
public import proofs.«01_k».proof.Proof.KernelIdeal.Layout
public import proofs.«01_k».proof.Proof.KernelIdeal.Overlap

@[expose] public section

set_option maxRecDepth 16384

noncomputable section

namespace Cert.KernelIdeal.Final

open Cert.KernelIdeal.Gen Cert.KernelIdeal.Run
open Idealize.ShloMosaic Idealize.ShloMosaic.TcCoe

variable (m : (ℓ : Loc nD τ sig) → Buf (Elt Ideal) ℓ) (c : Dev nD)

/-- The arguments on a device, with the table of overlaps. -/
def args : Spec.Args where
  q := m ((c : Thread nD τ).loc main_arg0)
  kv := m ((c : Thread nD τ).loc main_arg1)
  wc := m ((c : Thread nD τ).loc main_arg2)
  wp := m ((c : Thread nD τ).loc main_arg3)
  wb := m ((c : Thread nD τ).loc main_arg4)
  ov := Cert.ReferenceIdeal.Steps.overlap

/-! ## What each call finds -/

theorem W1_of (r : Ref sig .tc) (h0 : r ∉ hostOps0_W) : W1 m c r = m ((c : Thread nD τ).loc r) :=
  StableHlo.after_of_writes_sub hostOps0 _ hostOps0_writes h0
theorem W2_of (r : Ref sig .tc) (hr : r ∉ outs) : W2 m c r = W1 m c r :=
  Pipeline.afterRegion_keeps _ _ launch0.win.arr_inj (Compress.A_eq (W1 m) c) r (out0 r hr)
theorem W3_of (r : Ref sig .tc) (hr : r ∉ outs) : W3 m c r = W2 m c r :=
  Pipeline.afterRegion_keeps _ _ launch1.win.arr_inj (Kvb.A_eq (W2 m) c) r (out1 r hr)

theorem W2_v12_0 : W2 m c (Proc.devRef .tc main_v12_0) = Compress.acc2 (W1 m) c :=
  (Pipeline.afterRegion_arr (Compress.dat (W1 m) c) (W1 m c) launch0.win.arr_inj 4).trans (Compress.final4 (W1 m) c)
theorem W2_v12_1 : W2 m c (Proc.devRef .tc main_v12_1) = Compress.kpe (W1 m) c :=
  (Pipeline.afterRegion_arr (Compress.dat (W1 m) c) (W1 m c) launch0.win.arr_inj 5).trans (Compress.final5 (W1 m) c)
theorem W3_v13_0 : W3 m c (Proc.devRef .tc main_v13_0)
    = Kvb.out1_3 (W2 m c (Proc.devRef .tc main_v12_0)) (W2 m c (Proc.devRef .tc main_v12_1)) (W2 m c (Proc.devRef .tc main_arg4)) :=
  (Pipeline.afterRegion_arr (Kvb.dat (W2 m) c) (W2 m c) launch1.win.arr_inj 3).trans (Kvb.final3 (W2 m) c)
theorem W3_v13_1 : W3 m c (Proc.devRef .tc main_v13_1)
    = Kvb.out1_4 (W2 m c (Proc.devRef .tc main_v12_0)) (W2 m c (Proc.devRef .tc main_v12_1)) (W2 m c (Proc.devRef .tc main_arg4)) :=
  (Pipeline.afterRegion_arr (Kvb.dat (W2 m) c) (W2 m c) launch1.win.arr_inj 4).trans (Kvb.final4 (W2 m) c)

/-- A line beside the next one, at an index: the rows of a block in turn. -/
theorem rows_apply (x : FVec Ideal S4096x576 .f32) (n : Fin 255) (j : Fin 16384) :
    Layout.pairs (Layout.lines x) (ix2 n.castSucc j)
      = x (ix2 ⟨16 * n.val + j.val / 512, by omega⟩ ⟨j.val % 512, by omega⟩) := by
  rw [Layout.pairs_apply]
  split
  · rw [Layout.lines_apply]; rfl
  · rw [Layout.lines_apply]
    refine congrArg x (Layout.ix2_of ?_ ?_)
    · show 16 * (n.val + 1) + (j.val - 8192) / 512 = 16 * n.val + j.val / 512
      omega
    · show (j.val - 8192) % 512 = j.val % 512
      omega

theorem rows'_apply (x : FVec Ideal S4096x576 .f32) (n : Fin 255) (j : Fin 2048) :
    Layout.pairs' (Layout.lines' x) (ix2 n.castSucc j)
      = x (ix2 ⟨16 * n.val + j.val / 64, by omega⟩ ⟨512 + j.val % 64, by omega⟩) := by
  rw [Layout.pairs'_apply]
  split
  · rw [Layout.lines'_apply]; rfl
  · rw [Layout.lines'_apply]
    refine congrArg x (Layout.ix2_of ?_ ?_)
    · show 16 * (n.val + 1) + (j.val - 1024) / 64 = 16 * n.val + j.val / 64
      omega
    · show 512 + (j.val - 1024) % 64 = 512 + j.val % 64
      omega

theorem comp_eq (n : Fin 255) (l : Fin 512) : Compress.acc2 (W1 m) c (ix2 n.castSucc l) = Spec.comp (args m c) n l := by
  rw [Compress.acc2_apply (Layout.W1_v10 m c) (W1_of m c main_arg2 (by decide))]
  exact Finset.sum_congr rfl fun j _ => by rw [rows_apply]; rfl

theorem pos_eq (n : Fin 255) (d : Fin 64) : Compress.kpe (W1 m) c (ix2 n.castSucc d) = Spec.pos (args m c) n d := by
  rw [Compress.kpe_apply (Layout.W1_v11 m c) (W1_of m c main_arg3 (by decide))]
  exact Finset.sum_congr rfl fun j _ => by rw [rows'_apply]; rfl

theorem W2_arg4 : W2 m c (Proc.devRef .tc main_arg4) = (args m c).wb :=
  (W2_of m c main_arg4 (by decide)).trans (W1_of m c main_arg4 (by decide))

theorem key_eq (h : Fin 16) (n : Fin 255) (d : Fin 192) :
    W3 m c (Proc.devRef .tc main_v13_0) (ix3 h n.castSucc d) = Spec.key (args m c) h n d := by
  rw [W3_v13_0, W2_v12_0, W2_v12_1]
  exact Kvb.key_eq (comp_eq m c) (pos_eq m c) (W2_arg4 m c) h n d

theorem val_eq (h : Fin 16) (n : Fin 255) (d : Fin 128) :
    W3 m c (Proc.devRef .tc main_v13_1) (ix3 h n.castSucc d) = Spec.val (args m c) h n d := by
  rw [W3_v13_1, W2_v12_0, W2_v12_1]
  exact Kvb.val_eq (comp_eq m c) (W2_arg4 m c) h n d

theorem W3_arg0 : W3 m c (Proc.devRef .tc main_arg0) = (args m c).q :=
  (W3_of m c main_arg0 (by decide)).trans ((W2_of m c main_arg0 (by decide)).trans (W1_of m c main_arg0 (by decide)))

theorem W3_cst (n : Fin 255) (j : Fin 64) :
    W3 m c (Proc.devRef .tc main_cst) (ix2 n.castSucc j) = (args m c).ov n j := by
  rw [(W3_of m c main_cst (by decide)).trans ((W2_of m c main_cst (by decide)).trans (Layout.W1_cst m c))]
  exact Overlap.table_eq n j

/-! ## The results -/

variable (ha : (args m c).Real)

include ha in
/-- The attention output. -/
theorem W5_v14_0 : W5 m c (Proc.devRef .tc main_v14_0) = Attn.attended (args m c) :=
  (show W5 m c main_v14_0 = W4 m c main_v14_0 from StableHlo.after_of_writes_sub hostOps3 _ hostOps3_writes (by decide)).trans
    ((Pipeline.afterRegion_arr (Attn.dat (W3 m) c) (W3 m c) launch2.win.arr_inj 4).trans
      (Attn.final4 ha (W3_arg0 m c) (key_eq m c) (val_eq m c)))

include ha in
theorem W4_v14_1 : W4 m c (Proc.devRef .tc main_v14_1) = Attn.selected (args m c) :=
  (Pipeline.afterRegion_arr (Attn.dat (W3 m) c) (W3 m c) launch2.win.arr_inj 5).trans
    (Attn.final5 ha (W3_arg0 m c) (key_eq m c) (W3_cst m c))

include ha in
/-- The selected positions. -/
theorem W5_v15 : W5 m c (Proc.devRef .tc main_v15) = shapeCast S4096x1x16 (Attn.selected (args m c)) shapeCasts_S4096x16_S4096x1x16 := by
  rw [← W4_v14_1 m c ha]
  unfold W5
  simp only [hostOps3]
  after_results_simp
  rfl

/-- The positions with their middle axis of length 1, at an index. -/
theorem cast_apply (x : IVec S4096x16 32) (t : Fin 4096) (r : Fin 16) :
    shapeCast S4096x1x16 x shapeCasts_S4096x16_S4096x1x16 (ix3 t 0 r) = x (ix2 t r) := by
  simp only [pointwise]

end Cert.KernelIdeal.Final

end
-- ==== Proof.Value.lean ====
/-
The kernel's results and the reference's are the same values of the arguments.
-/
module

public import proofs.«01_k».proof.Defs
public import proofs.«01_k».proof.Proof.Finite
public import proofs.«01_k».proof.Proof.KernelIdeal.Final

@[expose] public section

set_option maxRecDepth 16384

noncomputable section

namespace Cert.Value

open Idealize.ShloMosaic Idealize.ShloMosaic.TcCoe Idealize.SL.Sem
open Cert.KernelIdeal (S4096x16 S4096x1x16)
open Cert.KernelIdeal.Gen (shapeCasts_S4096x16_S4096x1x16)

/-- The attention output of the reference, as an array. -/
theorem attended_eq (a : Spec.Args) :
    ReferenceIdeal.Steps.attended a.q a.kv a.wc a.wp a.wb = KernelIdeal.Attn.attended a := by
  funext y
  obtain ⟨t, j, rfl⟩ : ∃ (t : Fin 4096) (j : Fin 2048), y = ix2 t j := ⟨y 0, y 1, eq_ix2 y⟩
  exact ReferenceIdeal.Steps.attended_apply a t j

/-- The positions that the reference selects, as an array. -/
theorem selected_eq (a : Spec.Args) (hov : a.ov = ReferenceIdeal.Steps.overlap) :
    ReferenceIdeal.Steps.selected a.q a.kv a.wc a.wp a.wb
      = shapeCast S4096x1x16 (KernelIdeal.Attn.selected a) shapeCasts_S4096x16_S4096x1x16 := by
  refine funext fun y => ?_
  obtain ⟨t, z, r, rfl⟩ : ∃ (t : Fin 4096) (z : Fin 1) (r : Fin 16), y = ix3 t z r := ⟨y 0, y 1, y 2, eq_ix3 y⟩
  have hz : z = 0 := Subsingleton.elim z 0
  subst hz
  rw [KernelIdeal.Final.cast_apply]
  rw [ReferenceIdeal.Steps.selected_apply a hov t r]
  rfl

section

variable [Cert.Pre_finite.Facts] (m : (ℓ : Loc KernelIdeal.nD KernelIdeal.τ KernelIdeal.sig) → Buf (Elt Ideal) ℓ)

/-- Under the precondition the arguments are real numbers. -/
theorem args_real (hp : Pre_KernelIdeal_finite m) (c : Dev KernelIdeal.nD) : (KernelIdeal.Final.args m c).Real := by
  obtain ⟨h0, h1, h2, h3, h4⟩ := Pre_finite.real _ _ _ _ _ (hp c)
  exact ⟨h0, h1, h2, h3, h4, KernelIdeal.Overlap.nonneg⟩

/-- The kernel and the reference end with the same results at the same real arguments. -/
theorem same : algebraic_KernelIdeal_ReferenceIdeal_pre_finite := by
  intro m g m' g' hp hag
  refine ⟨fun c => KernelIdeal.Attn.attended (KernelIdeal.Final.args m c),
    fun c => shapeCast S4096x1x16 (KernelIdeal.Attn.selected (KernelIdeal.Final.args m c)) shapeCasts_S4096x16_S4096x1x16, ?_, ?_⟩
  · refine (θ_run _ _ _).mono (fun r h c => ?_) (KernelIdeal.Run.run m g)
    exact ⟨(h.1 c KernelIdeal.main_v14_0 rfl).trans (KernelIdeal.Final.W5_v14_0 m c (args_real m hp c)),
      (h.1 c KernelIdeal.main_v15 rfl).trans (KernelIdeal.Final.W5_v15 m c (args_real m hp c)),
      (h.1 c KernelIdeal.main_arg0 rfl).trans (KernelIdeal.Run.W5_of m c KernelIdeal.main_arg0 (by decide) (by decide) (by decide)),
      (h.1 c KernelIdeal.main_arg1 rfl).trans (KernelIdeal.Run.W5_of m c KernelIdeal.main_arg1 (by decide) (by decide) (by decide)),
      (h.1 c KernelIdeal.main_arg2 rfl).trans (KernelIdeal.Run.W5_of m c KernelIdeal.main_arg2 (by decide) (by decide) (by decide)),
      (h.1 c KernelIdeal.main_arg3 rfl).trans (KernelIdeal.Run.W5_of m c KernelIdeal.main_arg3 (by decide) (by decide) (by decide)),
      (h.1 c KernelIdeal.main_arg4 rfl).trans (KernelIdeal.Run.W5_of m c KernelIdeal.main_arg4 (by decide) (by decide) (by decide))⟩
  · refine (θ_run _ _ _).mono (fun r h c => ?_) (ReferenceIdeal.Value.run m' g')
    obtain ⟨e0, e1, e2, e3, e4⟩ := hag c
    obtain ⟨h0, h1, hargs⟩ := h c
    refine ⟨h0.trans ?_, h1.trans ?_, hargs⟩
    · refine (ReferenceIdeal.Steps.out0_eq m' c).trans ?_
      rw [e0, e1, e2, e3, e4]
      exact attended_eq (KernelIdeal.Final.args m c)
    · refine (ReferenceIdeal.Steps.out1_eq m' c).trans ?_
      rw [e0, e1, e2, e3, e4]
      exact selected_eq (KernelIdeal.Final.args m c) rfl

end

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference declares no semaphore. -/
theorem no_semaphore : ∀ _ : SemLoc Cert.ReferenceIdeal.sig, False := by decide

/-- The reference runs host operations only and declares no semaphore: it ends with its arguments unchanged. -/
theorem reference_frame : Cert.quiescent_ReferenceIdeal :=
  fun m ρ _ => (θ_run _ _ _).mono (fun r h => ⟨fun c => (h c).2.2, funext fun s => (no_semaphore s.2).elim⟩)
    (Cert.ReferenceIdeal.Value.run m ρ)

/-- The mask's literal is the one constant that is named: its word is replaced by −∞. -/
theorem mask_named : Cert.preserves_Kernel_KernelIdeal :=
  IdealRules.named_const.statement Cert.KernelIdeal.κ "mask" .f32 0xCE6E6B28#32 ⊥ rfl

theorem claim : Cert.Claim :=
  ⟨Cert.Kernel.Gen.facts, Cert.KernelIdeal.Gen.facts, Cert.ReferenceIdeal.Gen.facts, Cert.Pre_finite.facts,
    fun m ρ _ => Cert.Kernel.Run.frame m ρ,
    fun m ρ _ => Cert.KernelIdeal.Run.frame m ρ,
    @fun m ρ _ => Cert.KernelIdeal.Run.frame m ρ,
    reference_frame,
    fun m ρ _ => reference_frame m ρ trivial,
    mask_named,
    @Cert.Value.same Cert.Pre_finite.facts⟩

end Cert.Proof

end
